-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonsingular [hPre_nonsingular : Cert.Pre_nonsingular.Facts] (m : (ℓ : Loc Cert.KernelIdeal.nD Cert.KernelIdeal.τ Cert.KernelIdeal.sig) → Buf (Elt Ideal) ℓ) : Prop :=
  ∀ c : Dev Cert.KernelIdeal.nD,
    (Cert.Pre_nonsingular.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonsingular [hPre_nonsingular : Cert.Pre_nonsingular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonsingular.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonsingular [hKernelIdeal : Cert.KernelIdeal.Facts] [hPre_nonsingular : Cert.Pre_nonsingular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonsingular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonsingular [hReferenceIdeal : Cert.ReferenceIdeal.Facts] [hPre_nonsingular : Cert.Pre_nonsingular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonsingular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_nonsingular [hKernelIdeal : Cert.KernelIdeal.Facts] [hReferenceIdeal : Cert.ReferenceIdeal.Facts] [hPre_nonsingular : Cert.Pre_nonsingular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonsingular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonsingular : Cert.Pre_nonsingular.Facts),
    quiescent_Kernel (hKernel := hKernel)
    ∧ quiescent_KernelIdeal (hKernelIdeal := hKernelIdeal)
    ∧ quiescent_KernelIdeal_pre_nonsingular (hKernelIdeal := hKernelIdeal) (hPre_nonsingular := hPre_nonsingular)
    ∧ quiescent_ReferenceIdeal (hReferenceIdeal := hReferenceIdeal)
    ∧ quiescent_ReferenceIdeal_pre_nonsingular (hReferenceIdeal := hReferenceIdeal) (hPre_nonsingular := hPre_nonsingular)
    ∧ preserves_Kernel_KernelIdeal
    ∧ algebraic_KernelIdeal_ReferenceIdeal_pre_nonsingular (hKernelIdeal := hKernelIdeal) (hReferenceIdeal := hReferenceIdeal) (hPre_nonsingular := hPre_nonsingular)
-- ==== Pre_nonsingular.lean ====
abbrev S1x96x512x512 : Shape := ⟨4, ![1, 96, 512, 512]⟩
abbrev S_ : Shape := ⟨0, ![]⟩
abbrev S1x96x512x1 : Shape := ⟨4, ![1, 96, 512, 1]⟩
abbrev S1x96x512x511 : Shape := ⟨4, ![1, 96, 512, 511]⟩
abbrev S96x32x16x32x16 : Shape := ⟨5, ![96, 32, 16, 32, 16]⟩
abbrev S32x32x96x16x16 : Shape := ⟨5, ![32, 32, 96, 16, 16]⟩
abbrev S32x32x96x256 : Shape := ⟨4, ![32, 32, 96, 256]⟩
abbrev S32x32x1x256 : Shape := ⟨4, ![32, 32, 1, 256]⟩
abbrev S32x32x3x256 : Shape := ⟨4, ![32, 32, 3, 256]⟩
abbrev S32x32x3x1x256 : Shape := ⟨5, ![32, 32, 3, 1, 256]⟩
abbrev S32x32x1x3x256 : Shape := ⟨5, ![32, 32, 1, 3, 256]⟩
abbrev S32x32x3x3x256 : Shape := ⟨5, ![32, 32, 3, 3, 256]⟩
abbrev S32x32x3x3 : Shape := ⟨4, ![32, 32, 3, 3]⟩
abbrev S32x32x2x3 : Shape := ⟨4, ![32, 32, 2, 3]⟩
abbrev S32x32x1x3 : Shape := ⟨4, ![32, 32, 1, 3]⟩
abbrev S32x32x3x2 : Shape := ⟨4, ![32, 32, 3, 2]⟩
abbrev S32x32x3x1 : Shape := ⟨4, ![32, 32, 3, 1]⟩
abbrev S32x32x3 : Shape := ⟨3, ![32, 32, 3]⟩
abbrev S32x32x1 : Shape := ⟨3, ![32, 32, 1]⟩
abbrev S32x32 : Shape := ⟨2, ![32, 32]⟩

class Facts : Prop where
  bcast_S_S1x96x512x1 : S_.BroadcastsInDim S1x96x512x1 (![] : Fin 0 → Fin S1x96x512x1.rank)
  slices_S1x96x512x512_S1x96x512x511_0_0_0_0 : S1x96x512x512.Slices ![0, 0, 0, 0] S1x96x512x511
  concatenates_S1x96x512x1_S1x96x512x511_S1x96x512x512_d3 : Shape.Concatenates [S1x96x512x1, S1x96x512x511] S1x96x512x512 3
  reducesTo_S1x96x512x512_S_d0_1_2_3 : S1x96x512x512.ReducesTo [0, 1, 2, 3] S_
  h_S_ : 0 < S_.numel
  bcast_S_S1x96x512x512 : S_.BroadcastsInDim S1x96x512x512 (![] : Fin 0 → Fin S1x96x512x512.rank)
  shapeCasts_S1x96x512x512_S96x32x16x32x16 : S1x96x512x512.ShapeCasts S96x32x16x32x16
  transposes_S96x32x16x32x16_S32x32x96x16x16_3_1_0_2_4 : S96x32x16x32x16.Transposes [3, 1, 0, 2, 4] S32x32x96x16x16
  shapeCasts_S32x32x96x16x16_S32x32x96x256 : S32x32x96x16x16.ShapeCasts S32x32x96x256
  slices_S32x32x96x256_S32x32x1x256_0_0_0_0 : S32x32x96x256.Slices ![0, 0, 0, 0] S32x32x1x256
  slices_S32x32x96x256_S32x32x1x256_0_0_1_0 : S32x32x96x256.Slices ![0, 0, 1, 0] S32x32x1x256
  bcast_S_S32x32x1x256 : S_.BroadcastsInDim S32x32x1x256 (![] : Fin 0 → Fin S32x32x1x256.rank)
  concatenates_S32x32x1x256_S32x32x1x256_S32x32x1x256_S32x32x3x256_d2 : Shape.Concatenates [S32x32x1x256, S32x32x1x256, S32x32x1x256] S32x32x3x256 2
  bcast_S32x32x3x256_S32x32x3x1x256_0_1_2_4 : S32x32x3x256.BroadcastsInDim S32x32x3x1x256 (![0, 1, 2, 4] : Fin 4 → Fin S32x32x3x1x256.rank)
  bcast_S32x32x3x256_S32x32x1x3x256_0_1_3_4 : S32x32x3x256.BroadcastsInDim S32x32x1x3x256 (![0, 1, 3, 4] : Fin 4 → Fin S32x32x1x3x256.rank)
  bcast_S32x32x3x1x256_S32x32x3x3x256_0_1_2_3_4 : S32x32x3x1x256.BroadcastsInDim S32x32x3x3x256 (![0, 1, 2, 3, 4] : Fin 5 → Fin S32x32x3x3x256.rank)
  bcast_S32x32x1x3x256_S32x32x3x3x256_0_1_2_3_4 : S32x32x1x3x256.BroadcastsInDim S32x32x3x3x256 (![0, 1, 2, 3, 4] : Fin 5 → Fin S32x32x3x3x256.rank)
  reducesTo_S32x32x3x3x256_S32x32x3x3_d4 : S32x32x3x3x256.ReducesTo [4] S32x32x3x3
  slices_S32x32x3x3_S32x32x2x3_0_0_1_0 : S32x32x3x3.Slices ![0, 0, 1, 0] S32x32x2x3
  slices_S32x32x3x3_S32x32x1x3_0_0_0_0 : S32x32x3x3.Slices ![0, 0, 0, 0] S32x32x1x3
  concatenates_S32x32x2x3_S32x32x1x3_S32x32x3x3_d2 : Shape.Concatenates [S32x32x2x3, S32x32x1x3] S32x32x3x3 2
  slices_S32x32x3x3_S32x32x3x2_0_0_0_1 : S32x32x3x3.Slices ![0, 0, 0, 1] S32x32x3x2
  slices_S32x32x3x3_S32x32x3x1_0_0_0_0 : S32x32x3x3.Slices ![0, 0, 0, 0] S32x32x3x1
  concatenates_S32x32x3x2_S32x32x3x1_S32x32x3x3_d3 : Shape.Concatenates [S32x32x3x2, S32x32x3x1] S32x32x3x3 3
  reducesTo_S32x32x3x3_S32x32x3_d3 : S32x32x3x3.ReducesTo [3] S32x32x3
  slices_S32x32x3_S32x32x1_0_0_0 : S32x32x3.Slices ![0, 0, 0] S32x32x1
  shapeCasts_S32x32x1_S32x32 : S32x32x1.ShapeCasts S32x32
  bcast_S_S32x32 : S_.BroadcastsInDim S32x32 (![] : Fin 0 → Fin S32x32.rank)

variable [Facts]

def fn_round {F : FTy → Type} [FloatOps F] (arg0 : FVec F S_ .f32) : FVec F S_ .f32 :=
  let v0 : FVec F S_ .f32 := Host.roundeven arg0
  v0

def fn_round_0 {F : FTy → Type} [FloatOps F] (arg0 : FVec F S1x96x512x512 .f32) : FVec F S1x96x512x512 .f32 :=
  let v0 : FVec F S1x96x512x512 .f32 := Host.roundeven arg0
  v0

def fn_part2 {F : FTy → Type} [FloatOps F] (main_v34 : FVec F S32x32x3x3 .f32) (main_v38 : FVec F S32x32x3x2 .f32) (main_v39 : FVec F S32x32x3x1 .f32) : IVec S32x32 1 :=
  let main_v40 : FVec F S32x32x3x3 .f32 := (fun a b => concatenate S32x32x3x3 3 [⟨S32x32x3x2, a⟩, ⟨S32x32x3x1, b⟩] concatenates_S32x32x3x2_S32x32x3x1_S32x32x3x3_d3) main_v38 main_v39
  let main_v41 : FVec F S32x32x3x2 .f32 := (extractStridedSlice S32x32x3x2 ![0, 0, 0, 1] · slices_S32x32x3x3_S32x32x3x2_0_0_0_1) main_v40
  let main_v42 : FVec F S32x32x3x1 .f32 := (extractStridedSlice S32x32x3x1 ![0, 0, 0, 0] · slices_S32x32x3x3_S32x32x3x1_0_0_0_0) main_v40
  let main_v43 : FVec F S32x32x3x3 .f32 := (fun a b => concatenate S32x32x3x3 3 [⟨S32x32x3x2, a⟩, ⟨S32x32x3x1, b⟩] concatenates_S32x32x3x2_S32x32x3x1_S32x32x3x3_d3) main_v41 main_v42
  let main_v44 : FVec F S32x32x2x3 .f32 := (extractStridedSlice S32x32x2x3 ![0, 0, 1, 0] · slices_S32x32x3x3_S32x32x2x3_0_0_1_0) main_v40
  let main_v45 : FVec F S32x32x1x3 .f32 := (extractStridedSlice S32x32x1x3 ![0, 0, 0, 0] · slices_S32x32x3x3_S32x32x1x3_0_0_0_0) main_v40
  let main_v46 : FVec F S32x32x3x3 .f32 := (fun a b => concatenate S32x32x3x3 2 [⟨S32x32x2x3, a⟩, ⟨S32x32x1x3, b⟩] concatenates_S32x32x2x3_S32x32x1x3_S32x32x3x3_d2) main_v44 main_v45
  let main_v47 : FVec F S32x32x3x2 .f32 := (extractStridedSlice S32x32x3x2 ![0, 0, 0, 1] · slices_S32x32x3x3_S32x32x3x2_0_0_0_1) main_v46
  let main_v48 : FVec F S32x32x3x1 .f32 := (extractStridedSlice S32x32x3x1 ![0, 0, 0, 0] · slices_S32x32x3x3_S32x32x3x1_0_0_0_0) main_v46
  let main_v49 : FVec F S32x32x3x3 .f32 := (fun a b => concatenate S32x32x3x3 3 [⟨S32x32x3x2, a⟩, ⟨S32x32x3x1, b⟩] concatenates_S32x32x3x2_S32x32x3x1_S32x32x3x3_d3) main_v47 main_v48
  let main_v50 : FVec F S32x32x3x3 .f32 := mulf main_v40 main_v49
  let main_v51 : FVec F S32x32x3x3 .f32 := mulf main_v43 main_v46
  let main_v52 : FVec F S32x32x3x3 .f32 := subf main_v50 main_v51
  let main_v53 : FVec F S32x32x3x3 .f32 := mulf main_v34 main_v52
  let main_cst_7 : FVec F S_ .f32 := constant S_ .f32 0x00000000#32
  let main_v54 : FVec F S32x32x3 .f32 := (fun x v => Host.reduceAdd x v reducesTo_S32x32x3x3_S32x32x3_d3 h_S_) main_v53 main_cst_7
  let main_v55 : FVec F S32x32x1 .f32 := (extractStridedSlice S32x32x1 ![0, 0, 0] · slices_S32x32x3_S32x32x1_0_0_0) main_v54
  let main_v56 : FVec F S32x32 .f32 := shapeCast S32x32 main_v55 shapeCasts_S32x32x1_S32x32
  let main_cst_8 : FVec F S_ .f32 := constant S_ .f32 0x00000000#32
  let main_v57 : FVec F S32x32 .f32 := broadcastInDim S32x32 ![] bcast_S_S32x32 main_cst_8
  let main_v58 : IVec S32x32 1 := cmpf .une main_v56 main_v57
  main_v58

def fn_part1 {F : FTy → Type} [FloatOps F] (main_v14 : FVec F S_ .f32) (main_v16 : FVec F S1x96x512x512 .f32) (main_v17 : FVec F S1x96x512x512 .f32) : IVec S32x32 1 :=
  let main_v18 : FVec F S1x96x512x512 .f32 := subf main_v17 main_v16
  let main_v19 : FVec F S1x96x512x512 .f32 := addf main_v16 main_v18
  let main_v20 : FVec F S1x96x512x512 .f32 := broadcastInDim S1x96x512x512 ![] bcast_S_S1x96x512x512 main_v14
  let main_v21 : FVec F S1x96x512x512 .f32 := mulf main_v19 main_v20
  let main_v22 : FVec F S96x32x16x32x16 .f32 := shapeCast S96x32x16x32x16 main_v21 shapeCasts_S1x96x512x512_S96x32x16x32x16
  let main_v23 : FVec F S32x32x96x16x16 .f32 := (transpose S32x32x96x16x16 [3, 1, 0, 2, 4] · transposes_S96x32x16x32x16_S32x32x96x16x16_3_1_0_2_4) main_v22
  let main_v24 : FVec F S32x32x96x256 .f32 := shapeCast S32x32x96x256 main_v23 shapeCasts_S32x32x96x16x16_S32x32x96x256
  let main_v25 : FVec F S32x32x1x256 .f32 := (extractStridedSlice S32x32x1x256 ![0, 0, 0, 0] · slices_S32x32x96x256_S32x32x1x256_0_0_0_0) main_v24
  let main_v26 : FVec F S32x32x1x256 .f32 := (extractStridedSlice S32x32x1x256 ![0, 0, 1, 0] · slices_S32x32x96x256_S32x32x1x256_0_0_1_0) main_v24
  let main_cst_5 : FVec F S_ .f32 := constant S_ .f32 0x3F800000#32
  let main_v27 : FVec F S32x32x1x256 .f32 := broadcastInDim S32x32x1x256 ![] bcast_S_S32x32x1x256 main_cst_5
  let main_v28 : FVec F S32x32x3x256 .f32 := concatenate S32x32x3x256 2 [⟨S32x32x1x256, main_v25⟩, ⟨S32x32x1x256, main_v26⟩, ⟨S32x32x1x256, main_v27⟩] concatenates_S32x32x1x256_S32x32x1x256_S32x32x1x256_S32x32x3x256_d2
  let main_v29 : FVec F S32x32x3x1x256 .f32 := broadcastInDim S32x32x3x1x256 ![0, 1, 2, 4] bcast_S32x32x3x256_S32x32x3x1x256_0_1_2_4 main_v28
  let main_v30 : FVec F S32x32x1x3x256 .f32 := broadcastInDim S32x32x1x3x256 ![0, 1, 3, 4] bcast_S32x32x3x256_S32x32x1x3x256_0_1_3_4 main_v28
  let main_v31 : FVec F S32x32x3x3x256 .f32 := broadcastInDim S32x32x3x3x256 ![0, 1, 2, 3, 4] bcast_S32x32x3x1x256_S32x32x3x3x256_0_1_2_3_4 main_v29
  let main_v32 : FVec F S32x32x3x3x256 .f32 := broadcastInDim S32x32x3x3x256 ![0, 1, 2, 3, 4] bcast_S32x32x1x3x256_S32x32x3x3x256_0_1_2_3_4 main_v30
  let main_v33 : FVec F S32x32x3x3x256 .f32 := mulf main_v31 main_v32
  let main_cst_6 : FVec F S_ .f32 := constant S_ .f32 0x00000000#32
  let main_v34 : FVec F S32x32x3x3 .f32 := (fun x v => Host.reduceAdd x v reducesTo_S32x32x3x3x256_S32x32x3x3_d4 h_S_) main_v33 main_cst_6
  let main_v35 : FVec F S32x32x2x3 .f32 := (extractStridedSlice S32x32x2x3 ![0, 0, 1, 0] · slices_S32x32x3x3_S32x32x2x3_0_0_1_0) main_v34
  let main_v36 : FVec F S32x32x1x3 .f32 := (extractStridedSlice S32x32x1x3 ![0, 0, 0, 0] · slices_S32x32x3x3_S32x32x1x3_0_0_0_0) main_v34
  let main_v37 : FVec F S32x32x3x3 .f32 := (fun a b => concatenate S32x32x3x3 2 [⟨S32x32x2x3, a⟩, ⟨S32x32x1x3, b⟩] concatenates_S32x32x2x3_S32x32x1x3_S32x32x3x3_d2) main_v35 main_v36
  let main_v38 : FVec F S32x32x3x2 .f32 := (extractStridedSlice S32x32x3x2 ![0, 0, 0, 1] · slices_S32x32x3x3_S32x32x3x2_0_0_0_1) main_v37
  let main_v39 : FVec F S32x32x3x1 .f32 := (extractStridedSlice S32x32x3x1 ![0, 0, 0, 0] · slices_S32x32x3x3_S32x32x3x1_0_0_0_0) main_v37
  fn_part2 (F := F) main_v34 main_v38 main_v39

def fn {F : FTy → Type} [FloatOps F] (main_arg0 : FVec F S1x96x512x512 .f32) : IVec S32x32 1 :=
  let main_cst : FVec F S_ .f32 := constant S_ .f32 0x00000000#32
  let main_v0 : FVec F S1x96x512x1 .f32 := broadcastInDim S1x96x512x1 ![] bcast_S_S1x96x512x1 main_cst
  let main_v1 : FVec F S1x96x512x511 .f32 := (extractStridedSlice S1x96x512x511 ![0, 0, 0, 0] · slices_S1x96x512x512_S1x96x512x511_0_0_0_0) main_arg0
  let main_v2 : FVec F S1x96x512x512 .f32 := (fun a b => concatenate S1x96x512x512 3 [⟨S1x96x512x1, a⟩, ⟨S1x96x512x511, b⟩] concatenates_S1x96x512x1_S1x96x512x511_S1x96x512x512_d3) main_v0 main_v1
  let main_v3 : FVec F S1x96x512x512 .f32 := subf main_arg0 main_v2
  let main_v4 : FVec F S1x96x512x512 .f32 := Host.absf main_v3
  let main_cst_0 : FVec F S_ .f32 := constant S_ .f32 0xFF800000#32
  let main_v5 : FVec F S_ .f32 := (fun x v => Host.reduce FloatOps.maximumf x v reducesTo_S1x96x512x512_S_d0_1_2_3 h_S_) main_v4 main_cst_0
  let main_cst_1 : FVec F S_ .f32 := constant S_ .f32 0x43000000#32
  let main_v6 : FVec F S_ .f32 := Host.divf main_v5 main_cst_1
  let main_v7 : FVec F S_ .f32 := Host.log main_v6
  let main_cst_2 : FVec F S_ .f32 := constant S_ .f32 0x40000000#32
  let main_v8 : FVec F S_ .f32 := Host.log main_cst_2
  let main_v9 : FVec F S_ .f32 := Host.divf main_v7 main_v8
  let main_v10 : FVec F S_ .f32 := fn_round (F := F) main_v9
  let main_v11 : FVec F S_ .f32 := subf main_v10 main_v9
  let main_v12 : FVec F S_ .f32 := addf main_v9 main_v11
  let main_cst_3 : FVec F S_ .f32 := constant S_ .f32 0x3F800000#32
  let main_v13 : FVec F S_ .f32 := addf main_v12 main_cst_3
  let main_cst_4 : FVec F S_ .f32 := constant S_ .f32 0x40000000#32
  let main_v14 : FVec F S_ .f32 := Host.powf main_cst_4 main_v13
  let main_v15 : FVec F S1x96x512x512 .f32 := broadcastInDim S1x96x512x512 ![] bcast_S_S1x96x512x512 main_v14
  let main_v16 : FVec F S1x96x512x512 .f32 := Host.divf main_v3 main_v15
  let main_v17 : FVec F S1x96x512x512 .f32 := fn_round_0 (F := F) main_v16
  fn_part1 (F := F) main_v14 main_v16 main_v17
-- ==== Kernel.lean ====
abbrev S1x96x512x512 : Shape := ⟨4, ![1, 96, 512, 512]⟩
abbrev S96x512x512 : Shape := ⟨3, ![96, 512, 512]⟩
abbrev S512 : Shape := ⟨1, ![512]⟩
abbrev S_ : Shape := ⟨0, ![]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S32x512 : Shape := ⟨2, ![32, 512]⟩
abbrev S96x32x512 : Shape := ⟨3, ![96, 32, 512]⟩
abbrev S8x128 : Shape := ⟨2, ![8, 128]⟩
abbrev S96x32x1 : Shape := ⟨3, ![96, 32, 1]⟩
abbrev S96x32x511 : Shape := ⟨3, ![96, 32, 511]⟩
abbrev S1x96x32x512 : Shape := ⟨4, ![1, 96, 32, 512]⟩
abbrev S1 : Shape := ⟨1, ![1]⟩
abbrev S1x1x1x1 : Shape := ⟨4, ![1, 1, 1, 1]⟩
abbrev S1x8x128 : Shape := ⟨3, ![1, 8, 128]⟩
abbrev S1x1x1 : Shape := ⟨3, ![1, 1, 1]⟩
abbrev S96x16x512 : Shape := ⟨3, ![96, 16, 512]⟩
abbrev S1x16x512 : Shape := ⟨3, ![1, 16, 512]⟩
abbrev S16x512 : Shape := ⟨2, ![16, 512]⟩
abbrev S1536x512 : Shape := ⟨2, ![1536, 512]⟩
abbrev S1536x32 : Shape := ⟨2, ![1536, 32]⟩
abbrev S96x16x32 : Shape := ⟨3, ![96, 16, 32]⟩
abbrev S96x32 : Shape := ⟨2, ![96, 32]⟩
abbrev S96x1x32 : Shape := ⟨3, ![96, 1, 32]⟩

abbrev nBuf : Space → Nat
  | .hbm => 31
  | .vmem => 7
  | .smem => 0
  | _ => 0

abbrev bufTy : (tb : Table) → Fin (tcTables nBuf tb) → BufTy
  | .hbm, ⟨0, _⟩ => ⟨S1x96x512x512, .f32⟩
  | .hbm, ⟨1, _⟩ => ⟨S96x512x512, .f32⟩
  | .hbm, ⟨2, _⟩ => ⟨S512, .i32⟩
  | .hbm, ⟨3, _⟩ => ⟨S_, .i32⟩
  | .hbm, ⟨4, _⟩ => ⟨S_, .i32⟩
  | .hbm, ⟨5, _⟩ => ⟨S512, .i32⟩
  | .hbm, ⟨6, _⟩ => ⟨S512, .i32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i1⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S32, .i32⟩
  | .hbm, ⟨22, _⟩ => ⟨S512x1, .i32⟩
  | .hbm, ⟨23, _⟩ => ⟨S1x32, .i32⟩
  | .hbm, ⟨24, _⟩ => ⟨S512x32, .i32⟩
  | .hbm, ⟨25, _⟩ => ⟨S512x32, .i32⟩
  | .hbm, ⟨26, _⟩ => ⟨S512x32, .i1⟩
  | .hbm, ⟨27, _⟩ => ⟨S512x32, .f32⟩
  | .hbm, ⟨28, _⟩ => ⟨S32x512, .f32⟩
  | .hbm, ⟨29, _⟩ => ⟨S96x512x512, .f32⟩
  | .hbm, ⟨30, _⟩ => ⟨S1x96x512x512, .f32⟩
  | .local _ .vmem, ⟨0, _⟩ => ⟨S512x32, .f32⟩
  | .local _ .vmem, ⟨1, _⟩ => ⟨S32x512, .f32⟩
  | .local _ .vmem, ⟨2, _⟩ => ⟨S96x32x512, .f32⟩
  | .local _ .vmem, ⟨3, _⟩ => ⟨S96x32x512, .f32⟩
  | .local _ .vmem, ⟨4, _⟩ => ⟨S96x32x512, .f32⟩
  | .local _ .vmem, ⟨5, _⟩ => ⟨S96x32x512, .f32⟩
  | .local _ .vmem, ⟨6, _⟩ => ⟨S8x128, .f32⟩
  | _, _ => ⟨S1x96x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.remsi arg0 c16_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 1 → Memref sig .tc .vmem S512x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S96x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S1x96x512x512 : Shape := ⟨4, ![1, 96, 512, 512]⟩
abbrev S_ : Shape := ⟨0, ![]⟩
abbrev S1x96x512x1 : Shape := ⟨4, ![1, 96, 512, 1]⟩
abbrev S1x96x512x511 : Shape := ⟨4, ![1, 96, 512, 511]⟩
abbrev S96x32x16x32x16 : Shape := ⟨5, ![96, 32, 16, 32, 16]⟩
abbrev S32x32x96x16x16 : Shape := ⟨5, ![32, 32, 96, 16, 16]⟩
abbrev S32x32x96x256 : Shape := ⟨4, ![32, 32, 96, 256]⟩
abbrev S32x32x1x256 : Shape := ⟨4, ![32, 32, 1, 256]⟩
abbrev S32x32x3x256 : Shape := ⟨4, ![32, 32, 3, 256]⟩
abbrev S32x32x256x3 : Shape := ⟨4, ![32, 32, 256, 3]⟩
abbrev S32x32x3x3 : Shape := ⟨4, ![32, 32, 3, 3]⟩
abbrev S32x32x2x3 : Shape := ⟨4, ![32, 32, 2, 3]⟩
abbrev S32x32x1x3 : Shape := ⟨4, ![32, 32, 1, 3]⟩
abbrev S32x32x3x2 : Shape := ⟨4, ![32, 32, 3, 2]⟩
abbrev S32x32x3x1 : Shape := ⟨4, ![32, 32, 3, 1]⟩
abbrev S32x32x3 : Shape := ⟨3, ![32, 32, 3]⟩
abbrev S32x32x1 : Shape := ⟨3, ![32, 32, 1]⟩
abbrev S32x32 : Shape := ⟨2, ![32, 32]⟩
abbrev S32x32x1x1 : Shape := ⟨4, ![32, 32, 1, 1]⟩
abbrev S3x3 : Shape := ⟨2, ![3, 3]⟩
abbrev S32x32x256x96 : Shape := ⟨4, ![32, 32, 256, 96]⟩
abbrev S32x32x3x96 : Shape := ⟨4, ![32, 32, 3, 96]⟩
abbrev S32x32x96 : Shape := ⟨3, ![32, 32, 96]⟩
abbrev S32x32x96x1 : Shape := ⟨4, ![32, 32, 96, 1]⟩

abbrev nBuf : Space → Nat
  | .hbm => 129
  | .vmem => 0
  | .smem => 0
  | _ => 0

abbrev hbmTy0_0 (i : Nat) : BufTy := match i % 128 with
  | 0 => ⟨S1x96x512x512, .f32⟩
  | 1 => ⟨S_, .f32⟩
  | 2 => ⟨S1x96x512x1, .f32⟩
  | 3 => ⟨S1x96x512x511, .f32⟩
  | 4 => ⟨S1x96x512x512, .f32⟩
  | 5 => ⟨S1x96x512x512, .f32⟩
  | 6 => ⟨S1x96x512x512, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S1x96x512x512, .f32⟩
  | 23 => ⟨S1x96x512x512, .f32⟩
  | 24 => ⟨S1x96x512x512, .f32⟩
  | 25 => ⟨S1x96x512x512, .f32⟩
  | 26 => ⟨S1x96x512x512, .f32⟩
  | 27 => ⟨S1x96x512x512, .f32⟩
  | 28 => ⟨S1x96x512x512, .f32⟩
  | 29 => ⟨S96x32x16x32x16, .f32⟩
  | 30 => ⟨S32x32x96x16x16, .f32⟩
  | 31 => ⟨S32x32x96x256, .f32⟩
  | 32 => ⟨S32x32x1x256, .f32⟩
  | 33 => ⟨S32x32x1x256, .f32⟩
  | 34 => ⟨S_, .f32⟩
  | 35 => ⟨S32x32x1x256, .f32⟩
  | 36 => ⟨S32x32x3x256, .f32⟩
  | 37 => ⟨S32x32x256x3, .f32⟩
  | 38 => ⟨S32x32x3x3, .f32⟩
  | 39 => ⟨S32x32x2x3, .f32⟩
  | 40 => ⟨S32x32x1x3, .f32⟩
  | 41 => ⟨S32x32x3x3, .f32⟩
  | 42 => ⟨S32x32x3x2, .f32⟩
  | 43 => ⟨S32x32x3x1, .f32⟩
  | 44 => ⟨S32x32x3x3, .f32⟩
  | 45 => ⟨S32x32x3x2, .f32⟩
  | 46 => ⟨S32x32x3x1, .f32⟩
  | 47 => ⟨S32x32x3x3, .f32⟩
  | 48 => ⟨S32x32x2x3, .f32⟩
  | 49 => ⟨S32x32x1x3, .f32⟩
  | 50 => ⟨S32x32x3x3, .f32⟩
  | 51 => ⟨S32x32x3x2, .f32⟩
  | 52 => ⟨S32x32x3x1, .f32⟩
  | 53 => ⟨S32x32x3x3, .f32⟩
  | 54 => ⟨S32x32x3x3, .f32⟩
  | 55 => ⟨S32x32x3x3, .f32⟩
  | 56 => ⟨S32x32x3x3, .f32⟩
  | 57 => ⟨S32x32x3x3, .f32⟩
  | 58 => ⟨S_, .f32⟩
  | 59 => ⟨S32x32x3, .f32⟩
  | 60 => ⟨S32x32x1, .f32⟩
  | 61 => ⟨S32x32, .f32⟩
  | 62 => ⟨S_, .f32⟩
  | 63 => ⟨S32x32, .f32⟩
  | 64 => ⟨S32x32, .i1⟩
  | 65 => ⟨S32x32x1x1, .i1⟩
  | 66 => ⟨S3x3, .i32⟩
  | 67 => ⟨S3x3, .i32⟩
  | 68 => ⟨S_, .i32⟩
  | 69 => ⟨S3x3, .i32⟩
  | 70 => ⟨S3x3, .i32⟩
  | 71 => ⟨S3x3, .i1⟩
  | 72 => ⟨S3x3, .f32⟩
  | 73 => ⟨S32x32x3x3, .i1⟩
  | 74 => ⟨S32x32x3x3, .f32⟩
  | 75 => ⟨S32x32x3x3, .f32⟩
  | 76 => ⟨S32x32x2x3, .f32⟩
  | 77 => ⟨S32x32x1x3, .f32⟩
  | 78 => ⟨S32x32x3x3, .f32⟩
  | 79 => ⟨S32x32x3x2, .f32⟩
  | 80 => ⟨S32x32x3x1, .f32⟩
  | 81 => ⟨S32x32x3x3, .f32⟩
  | 82 => ⟨S32x32x3x2, .f32⟩
  | 83 => ⟨S32x32x3x1, .f32⟩
  | 84 => ⟨S32x32x3x3, .f32⟩
  | 85 => ⟨S32x32x2x3, .f32⟩
  | 86 => ⟨S32x32x1x3, .f32⟩
  | 87 => ⟨S32x32x3x3, .f32⟩
  | 88 => ⟨S32x32x3x2, .f32⟩
  | 89 => ⟨S32x32x3x1, .f32⟩
  | 90 => ⟨S32x32x3x3, .f32⟩
  | 91 => ⟨S32x32x3x3, .f32⟩
  | 92 => ⟨S32x32x3x3, .f32⟩
  | 93 => ⟨S32x32x3x3, .f32⟩
  | 94 => ⟨S32x32x3x3, .f32⟩
  | 95 => ⟨S32x32x3x3, .f32⟩
  | 96 => ⟨S_, .f32⟩
  | 97 => ⟨S32x32x3, .f32⟩
  | 98 => ⟨S32x32x1, .f32⟩
  | 99 => ⟨S32x32, .f32⟩
  | 100 => ⟨S32x32x1x1, .f32⟩
  | 101 => ⟨S32x32x3x3, .f32⟩
  | 102 => ⟨S32x32x3x3, .f32⟩
  | 103 => ⟨S32x32x3x256, .f32⟩
  | 104 => ⟨S32x32x256x96, .f32⟩
  | 105 => ⟨S32x32x3x96, .f32⟩
  | 106 => ⟨S32x32x256x96, .f32⟩
  | 107 => ⟨S32x32x96x256, .f32⟩
  | 108 => ⟨S32x32x96x256, .f32⟩
  | 109 => ⟨S32x32x96x256, .f32⟩
  | 110 => ⟨S32x32x96x256, .f32⟩
  | 111 => ⟨S32x32x96x256, .f32⟩
  | 112 => ⟨S32x32x96x256, .f32⟩
  | 113 => ⟨S32x32x96x256, .f32⟩
  | 114 => ⟨S32x32x96x256, .f32⟩
  | 115 => ⟨S32x32x96x256, .f32⟩
  | 116 => ⟨S32x32x96x256, .f32⟩
  | 117 => ⟨S_, .f32⟩
  | 118 => ⟨S32x32x96, .f32⟩
  | 119 => ⟨S_, .f32⟩
  | 120 => ⟨S32x32x96, .f32⟩
  | 121 => ⟨S32x32x96, .i1⟩
  | 122 => ⟨S32x32x96x1, .i1⟩
  | 123 => ⟨S32x32x96x256, .i1⟩
  | 124 => ⟨S32x32x96x256, .f32⟩
  | 125 => ⟨S32x32x96x16x16, .f32⟩
  | 126 => ⟨S96x32x16x32x16, .f32⟩
  | 127 => ⟨S1x96x512x512, .f32⟩
  | _ => ⟨S1x96x512x512, .f32⟩

abbrev hbmTy0_1 (i : Nat) : BufTy := match i % 128 with
  | 0 => ⟨S1x96x512x512, .f32⟩
  | _ => ⟨S1x96x512x512, .f32⟩

abbrev hbmTy (i : Nat) : BufTy := match i / 128 with
  | 0 => hbmTy0_0 i
  | 1 => hbmTy0_1 i
  | _ => ⟨S1x96x512x512, .f32⟩

abbrev bufTy : (tb : Table) → Fin (tcTables nBuf tb) → BufTy
  | .hbm, ⟨i, _⟩ => hbmTy i
  | _, _ => ⟨S1x96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_5 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_6 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_7 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_c : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_call2_v0 : Ref sig .tc := ⟨.hbm, 73, rfl⟩
abbrev main_call2_v1 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_8 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_9 : Ref sig .tc := ⟨.hbm, 117, rfl⟩
abbrev main_v103 : Ref sig .tc := ⟨.hbm, 118, rfl⟩
abbrev main_cst_10 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_call4_v0 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩

abbrev nD : Nat := 1
abbrev τ : Topo := Topo.v7x

variable {F : FTy → Type} [FloatOps F]
-- ==== Proof.BodyIdeal.lean ====
module

public import proofs.«01_k».proof.Proof.Gen.KernelIdeal.Skeleton
public import proofs.«01_k».proof.Proof.Gen.KernelIdeal.Frame
public import Idealize.ShloMosaic.Lib.Claim
public import Idealize.ShloMosaic.Lib.Pipeline.Value

/-! # What one grid point of `KernelIdeal` does, and its run

The grid has 32 points. The first sixteen keep a running maximum in the scratch buffer and leave the output alone;
the last sixteen read the maximum and fill the output block in two strips of sixteen rows. -/

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions -/

/-- The point is one of the first sixteen, as the body computes it. -/
abbrev early (i : grid0.Coords) : Prop :=
  (Scalar.cmpi .ne (Scalar.extui (Scalar.cmpi .slt (BitVec.ofNat 32 (i 0).val) 16#32)) 0#32) = 1#1
/-- The point is one of the last sixteen, as the body computes it. -/
abbrev late (i : grid0.Coords) : Prop := k0_cond2 i = 1#1

theorem early_iff : ∀ t : Fin cfg0.N, early (grid0.coords t) ↔ t.val < 16 :=
  (by decide +kernel : ∀ t : Fin grid0.N, early (grid0.coords t) ↔ t.val < 16)
theorem late_iff : ∀ t : Fin cfg0.N, late (grid0.coords t) ↔ 16 ≤ t.val :=
  (by decide +kernel : ∀ t : Fin grid0.N, late (grid0.coords t) ↔ 16 ≤ t.val)
/-- At the early points the output window is idle and not written back. -/
theorem out_idle : ∀ t : Fin cfg0.N, t.val < 16 → cfg0.idle 3 (grid0.coords t) = true :=
  (by decide +kernel : ∀ t : Fin cfg0.N, t.val < 16 → cfg0.idle 3 (grid0.coords t) = true)
theorem out_kept : ∀ t : Fin cfg0.N, t.val < 16 → (cfg0.win 3).flush t = false :=
  (by decide +kernel : ∀ t : Fin cfg0.N, t.val < 16 → (cfg0.win 3).flush t = false)
/-- At the late points it is live. -/
theorem out_live : ∀ t : Fin cfg0.N, 16 ≤ t.val → cfg0.idle 3 (grid0.coords t) = false :=
  (by decide +kernel : ∀ t : Fin cfg0.N, 16 ≤ t.val → cfg0.idle 3 (grid0.coords t) = false)

/-! ## What a late point writes -/

/-- Rows 0 to 15 of the output block, from the two indicator matrices, the input block and the scratch. -/
def strip0 (seg : Vec F S512x32 .f32) (segT : Vec F S32x512 .f32) (x : Vec F S96x32x512 .f32) (a : Vec F S8x128 .f32) :
    FVec F S96x16x512 .f32 :=
  let v33 := k0_pay6 seg
  let v35 := k0_pay7 segT
  let v36 := k0_pay8 a x
  let v39 := k0_pay10 a x
  let v41 := k0_pay11 a x
  let v47 := k0_pay12 a x seg
  let v48 := k0_pay13 v47
  let v55 := k0_pay14 v33 v36 v41
  let v59 := k0_pay15 v33 v36
  let v72 := k0_pay22 v33 v36 v47
  let v75 := k0_pay23 v33 v36 v41 v47
  let v84 := k0_pay25 v33 v36 v47
  let v87 := k0_pay26 v33 v36 v47
  let v90 := k0_pay27 v33 v36 v41 v47
  let v92 := k0_pay28 v33 v36 v41 v47
  let v96 := k0_pay29 v33 v36 v41 v47
  let v97 := k0_pay30 v33 v36 v41 v47
  k0_pay37 (k0_pay2 a) v33 v35 v36 (k0_pay9 x) v41 (k0_pay34 v48 v55 v59 v75 v87 v90 v92 v96)
    (k0_pay35 v35 v39 v48 v55 v59 v72 v75 v92 v96 v97) (k0_pay36 v48 v55 v59 v72 v84 v87 v92 v96)

/-- Rows 16 to 31 of it. -/
def strip1 (seg : Vec F S512x32 .f32) (segT : Vec F S32x512 .f32) (x : Vec F S96x32x512 .f32) (a : Vec F S8x128 .f32) :
    FVec F S96x16x512 .f32 :=
  let v33 := k0_pay6 seg
  let v35 := k0_pay7 segT
  let v31 := k0_pay5 a x
  let v191 := k0_pay38 v31
  let v194 := k0_pay40 v31
  let v196 := k0_pay41 v31
  let v200 := k0_pay42 v31
  let v203 := k0_pay43 v33 v200
  let v210 := k0_pay44 v33 v191 v196
  let v214 := k0_pay45 v33 v191
  let v223 := k0_pay51 v33 v191 v196
  let v227 := k0_pay52 v33 v191 v200
  let v230 := k0_pay53 v33 v191 v196 v200
  let v239 := k0_pay55 v33 v191 v200
  let v242 := k0_pay56 v33 v191 v200
  let v245 := k0_pay57 v33 v191 v196 v200
  let v247 := k0_pay58 v33 v191 v196 v200
  let v249 := k0_pay59 v33 v191 v196 v200
  k0_pay68 (k0_pay2 a) v33 v35 v191 (k0_pay39 (k0_pay4 x)) v196 (k0_pay64 v203 v210 v214 v227 v239 v242 v247 v249)
    (k0_pay65 v203 v210 v214 v230 v242 v245 v247 v249) (k0_pay66 v35 v203 v210 v214 v223 v227 v230 v247 v249) (k0_pay67 v194)

/-- The two strips as the pieces the body stores, the later one first. -/
def pieces (seg : Vec F S512x32 .f32) (segT : Vec F S32x512 .f32) (x : Vec F S96x32x512 .f32) (a : Vec F S8x128 .f32) :
    List (View.Piece (Elt F) S96x32x512 .f32) :=
  [⟨Rect.unit (s := S96x32x512) ![0, 16, 0] S96x16x512.size inb_S96x32x512_S96x16x512_0_16_0, strip1 seg segT x a⟩,
   ⟨Rect.unit (s := S96x32x512) ![0, 0, 0] S96x16x512.size inb_S96x32x512_S96x16x512_0_0_0, strip0 seg segT x a⟩]

/-- The pieces cover the block. -/
theorem pieces_cover (seg : Vec F S512x32 .f32) (segT : Vec F S32x512 .f32) (x : Vec F S96x32x512 .f32) (a : Vec F S8x128 .f32)
    (y : S96x32x512.Idx) : ∃ p ∈ pieces seg segT x a, y ∈ p.1.set :=
  View.cover_of_tiledL (pieces seg segT x a) S96x16x512.size (by sl_kernel_rfl) y

/-- The output block a late point leaves. -/
def outBlk (seg : Vec F S512x32 .f32) (segT : Vec F S32x512 .f32) (x : Vec F S96x32x512 .f32) (a : Vec F S8x128 .f32) :
    Vec F S96x32x512 .f32 := View.canon (pieces seg segT x a)

theorem zeros2 : (![0, 0] : Fin 2 → ℕ) = fun _ => 0 := by decide
theorem zeros3 : (![0, 0, 0] : Fin 3 → ℕ) = fun _ => 0 := by decide

/-- Each whole-buffer load reads the buffer. -/
theorem ld_a (h) (v : Vec F S8x128 .f32) : View.ld v (Rect.unit (s := S8x128) ![0, 0] S8x128.size h) = v :=
  View.ld_unit_zero zeros2 _ _
theorem ld_seg (h) (v : Vec F S512x32 .f32) : View.ld v (Rect.unit (s := S512x32) ![0, 0] S512x32.size h) = v :=
  View.ld_unit_zero zeros2 _ _
theorem ld_segT (h) (v : Vec F S32x512 .f32) : View.ld v (Rect.unit (s := S32x512) ![0, 0] S32x512.size h) = v :=
  View.ld_unit_zero zeros2 _ _
theorem ld_x (h) (v : Vec F S96x32x512 .f32) : View.ld v (Rect.unit (s := S96x32x512) ![0, 0, 0] S96x32x512.size h) = v :=
  View.ld_unit_zero zeros3 _ _

/-! ## The body's two triples -/

set_option maxHeartbeats 1000000 in
/-- At an early point the body reads the input block and the scratch and leaves the larger maximum in the scratch. -/
theorem run_early (c : Dev nD) (i : grid0.Coords) (arg1 : Memref sig .tc .vmem S512x32 .f32) (harg1 : arg1.IsWhole)
    (arg2 : Memref sig .tc .vmem S32x512 .f32) (harg2 : arg2.IsWhole) (arg3 : Memref sig .tc .vmem S96x32x512 .f32) (harg3 : arg3.IsWhole)
    (arg4 : Memref sig .tc .vmem S96x32x512 .f32) (harg4 : arg4.IsWhole) (arg5 : Memref sig .tc .vmem S8x128 .f32) (harg5 : arg5.IsWhole)
    (he : early i) (hl : ¬late i) (x : Vec F S96x32x512 .f32) (a : Vec F S8x128 .f32) (E : Set ℕ) (K : PUnit → sProp 𝕄) :
    iprop(owns (c : Thread nD τ) arg3 fullShare x ∗ owns (c : Thread nD τ) arg5 fullShare a
        ∗ (iprop(owns (c : Thread nD τ) arg3 fullShare x ∗ owns (c : Thread nD τ) arg5 fullShare (k0_pay1 i x a)) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  unfold owns
  iintro ⟨⟨%f2, %hf2, H2⟩, ⟨%fs, %hfs, HS⟩, Hk⟩
  obtain rfl := harg3.eq_unread hf2; obtain rfl := harg5.eq_unread hfs
  sl_exec (disch := first | sl_exact he | sl_exact hl)
  sl_step
  iapply Hk
  isplitl [H2]
  · iexists _; isplitr; · ipureintro; exact harg3.read_unread _
    iexact H2
  iexists _; isplitr
  swap; · iexact HS
  ipureintro
  rw [View.read_writes_eq_canon _ _ _ (fun y => ⟨_, List.mem_singleton_self _, View.mem_set_unit_zero zeros2 inb_S8x128_S8x128_0_0 y⟩),
    View.canon_unit_zero zeros2]
  simp only [View.readAt_eq_ld, harg3.read_unread, harg5.read_unread]
  rw [ld_x, ld_a]

set_option maxHeartbeats 1000000 in
/-- At a late point it reads the three inputs and the scratch and fills the output block. -/
theorem run_late (c : Dev nD) (i : grid0.Coords) (arg1 : Memref sig .tc .vmem S512x32 .f32) (harg1 : arg1.IsWhole)
    (arg2 : Memref sig .tc .vmem S32x512 .f32) (harg2 : arg2.IsWhole) (arg3 : Memref sig .tc .vmem S96x32x512 .f32) (harg3 : arg3.IsWhole)
    (arg4 : Memref sig .tc .vmem S96x32x512 .f32) (harg4 : arg4.IsWhole) (arg5 : Memref sig .tc .vmem S8x128 .f32) (harg5 : arg5.IsWhole)
    (he : ¬early i) (hl : late i) (seg : Vec F S512x32 .f32) (segT : Vec F S32x512 .f32) (x : Vec F S96x32x512 .f32)
    (a : Vec F S8x128 .f32) (E : Set ℕ) (K : PUnit → sProp 𝕄) :
    iprop(owns (c : Thread nD τ) arg1 fullShare seg ∗ owns (c : Thread nD τ) arg2 fullShare segT ∗ owns (c : Thread nD τ) arg3 fullShare x
        ∗ (∃ d, owns (c : Thread nD τ) arg4 fullShare d) ∗ owns (c : Thread nD τ) arg5 fullShare a
        ∗ (iprop(owns (c : Thread nD τ) arg1 fullShare seg ∗ owns (c : Thread nD τ) arg2 fullShare segT ∗ owns (c : Thread nD τ) arg3 fullShare x
          ∗ owns (c : Thread nD τ) arg4 fullShare (outBlk seg segT x a) ∗ owns (c : Thread nD τ) arg5 fullShare a) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  simp only [k0_part7_eq_skeleton, k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | sl_exact he | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (congrArg (fun L => View.read (Elt F) arg4.view (arg4.view.writes (Elt F) f3 L)) (a₂ := pieces
      (View.readAt (Elt F) arg1.view (Rect.unit (s := S512x32) ![0, 0] S512x32.size inb_S512x32_S512x32_0_0).toLoadRect (harg1.unread seg))
      (View.readAt (Elt F) arg2.view (Rect.unit (s := S32x512) ![0, 0] S32x512.size inb_S32x512_S32x512_0_0).toLoadRect (harg2.unread segT))
      (View.readAt (Elt F) arg3.view (Rect.unit (s := S96x32x512) ![0, 0, 0] S96x32x512.size inb_S96x32x512_S96x32x512_0_0_0).toLoadRect (harg3.unread x))
      (View.readAt (Elt F) arg5.view (Rect.unit (s := S8x128) ![0, 0] S8x128.size inb_S8x128_S8x128_0_0).toLoadRect (harg5.unread a)))
      (by sl_kernel_rfl)).trans ?_
    simp only [View.readAt_eq_ld, harg1.read_unread, harg2.read_unread, harg3.read_unread, harg5.read_unread]
    rw [ld_seg, ld_segT, ld_x, ld_a]
    exact View.read_writes_eq_canon _ _ _ (pieces_cover seg segT x a)
  iexists _; isplitr; · ipureintro; exact harg5.read_unread _
  iexact HS

end Cert.KernelIdeal.Body

end
-- ==== Proof.RunIdeal.lean ====
module

public import proofs.«01_k».proof.Proof.BodyIdeal

/-! # The run of `KernelIdeal`

The maximum the scratch holds after each point, the invariant between the points, the body's obligation, and the
run: every execution ends, the argument is unchanged, every counter is zero, and the output array holds what the last
sixteen points wrote. -/

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch buffer, whole. -/
abbrev scratch : Memref sig .tc .vmem S8x128 .f32 := Memref.whole cc0_scratch0

/-- Window `w`'s staging buffer at point `t`. -/
abbrev buf0 (t : Fin cfg0.N) : Memref sig .tc .vmem S512x32 .f32 := win0_0.stage (cfg0.slots t 0)
abbrev buf1 (t : Fin cfg0.N) : Memref sig .tc .vmem S32x512 .f32 := win0_1.stage (cfg0.slots t 1)
abbrev buf2 (t : Fin cfg0.N) : Memref sig .tc .vmem S96x32x512 .f32 := win0_2.stage (cfg0.slots t 2)
abbrev buf3 (t : Fin cfg0.N) : Memref sig .tc .vmem S96x32x512 .f32 := win0_3.stage (cfg0.slots t 3)

/-- At the first point the new maximum does not depend on what the scratch held. -/
theorem first_max (t : Fin cfg0.N) (ht : t.val = 0) (x : Vec F S96x32x512 .f32) (a b : Vec F S8x128 .f32) :
    k0_pay1 (grid0.coords t) x a = k0_pay1 (grid0.coords t) x b := by
  have h0 : Scalar.cmpi .eq (BitVec.ofNat 32 ((grid0.coords t) 0).val) 0#32 = 1#1 :=
    (by decide +kernel : ∀ t : Fin grid0.N, t.val = 0 → Scalar.cmpi .eq (BitVec.ofNat 32 ((grid0.coords t) 0).val) 0#32 = 1#1) t ht
  unfold k0_pay1
  simp only [h0]
  rfl

/-- What the scratch holds after point `n`: the running maximum up to the sixteenth point, then unchanged. -/
def maxAt (c : Dev nD) : (n : ℕ) → n < cfg0.N → Vec F S8x128 .f32
  | 0, h => k0_pay1 (grid0.coords ⟨0, h⟩) (iblk m c 2 ⟨0, h⟩) (fun _ => Scalar.ofBits .f32 0x00000000#32)
  | n + 1, h => if n + 1 < 16 then k0_pay1 (grid0.coords ⟨n + 1, h⟩) (iblk m c 2 ⟨n + 1, h⟩) (maxAt c n (Nat.lt_of_succ_lt h))
      else maxAt c n (Nat.lt_of_succ_lt h)

theorem maxAt_zero (c : Dev nD) (t : Fin cfg0.N) (ht : t.val = 0) (a : Vec F S8x128 .f32) :
    maxAt m c t.val t.isLt = k0_pay1 (grid0.coords t) (iblk m c 2 t) a := by
  obtain ⟨n, hn⟩ := t
  obtain rfl : n = 0 := ht
  exact first_max ⟨0, hn⟩ rfl _ _ _

theorem maxAt_early (c : Dev nD) (t : Fin cfg0.N) (h0 : t.val ≠ 0) (ht : t.val < 16) :
    maxAt m c t.val t.isLt = k0_pay1 (grid0.coords t) (iblk m c 2 t) (maxAt m c (t.val - 1) (Nat.lt_of_le_of_lt (Nat.sub_le _ _) t.isLt)) := by
  obtain ⟨n, hn⟩ := t
  cases n with
  | zero => exact absurd rfl h0
  | succ n => exact if_pos ht

theorem maxAt_late (c : Dev nD) (t : Fin cfg0.N) (ht : 16 ≤ t.val) :
    maxAt m c t.val t.isLt = maxAt m c (t.val - 1) (Nat.lt_of_le_of_lt (Nat.sub_le _ _) t.isLt) := by
  obtain ⟨n, hn⟩ := t
  cases n with
  | zero => exact absurd ht (by simp)
  | succ n => exact if_neg (by simpa using ht)

/-- The output block after point `t` (at an early point nothing looks at it). -/
def outAt (c : Dev nD) (t : Fin cfg0.N) : Vec F S96x32x512 .f32 :=
  outBlk (iblk m c 0 t) (iblk m c 1 t) (iblk m c 2 t) (maxAt m c (t.val - 1) (Nat.lt_of_le_of_lt (Nat.sub_le _ _) t.isLt))

/-- The launch's invariant, with the scratch as a buffer owned at some contents. -/
theorem launchInv_eq (c : Dev nD) : (Pipeline.ΦA spec0 c : sProp 𝕄)
    = iprop(iprop((∃ d, owns (c : Thread nD τ) scratch fullShare d)) ∗ (∃ r, prngReg c r)) := by
  unfold Pipeline.ΦA; rw [scopedRest0_eq]; simp only [scratch, owns_whole]; try rfl

/-- The invariant before point `n`: the launch's before the first, afterwards the scratch at the running maximum. -/
def inv (c : Dev nD) : (n : ℕ) → n ≤ cfg0.N → sProp 𝕄
  | 0, _ => Pipeline.ΦA spec0 c
  | n + 1, h => iprop(owns (c : Thread nD τ) scratch fullShare (maxAt m c n h) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(owns (c : Thread nD τ) scratch fullShare (maxAt m c (n - 1) (by omega)) ∗ (∃ r, prngReg c r)) := by
  cases n with
  | zero => exact absurd rfl hz
  | succ n => rfl

/-- The pipeline's data: the arrays as the region finds them, the inputs' buffers at their blocks and the output's at
    `outAt`, the invariant above, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_at (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What a window that is live at `t` ends with is its buffer at the data's `after`. -/
theorem leaves_0 (c : Dev nD) (t : Fin cfg0.N) : (dats m 0 c).leavesExact 0 t = owns (c : Thread nD τ) (buf0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (buf1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (buf2 t) fullShare (iblk m c 2 t) := by
  unfold Dat.leavesExact; rw [show cfg0.idle 2 (grid0.coords t) = false from rfl, after_2]
theorem leaves_3 (c : Dev nD) (t : Fin cfg0.N) (h : 16 ≤ t.val) :
    (dats m 0 c).leavesExact 3 t = owns (c : Thread nD τ) (buf3 t) fullShare (outAt m c t) := by
  unfold Dat.leavesExact; rw [out_live t h, after_3]

/-- What the body is called with at point `t`, the windows one by one, -/
def before (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d)))

/-- and what it returns. -/
def afterwards (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

set_option maxHeartbeats 1600000 in
/-- The body at any point takes the one to the other. -/
theorem body_sound (c : Dev nD) (t : Fin cfg0.N) :
    before m c t ⊢ wp frame (wpE (defs₀ (F := F)) Variants.none c none) Set.univ (bodyAt0 t) (fun _ => afterwards m c t) := by
  unfold before afterwards bodyAt0
  simp only [before_0, before_1, before_2]
  rw [show (dats m 0 c).owesAt () t.succ = (dats m 0 c).owesAt () t.castSucc from rfl,
    show (dats m 0 c).Φ t.succ = iprop(owns (c : Thread nD τ) scratch fullShare (maxAt m c t.val t.isLt) ∗ (∃ r, prngReg c r)) from rfl,
    leaves_0, leaves_1, leaves_2]
  by_cases ht : t.val < 16
  · have he : early (grid0.coords t) := (early_iff t).mpr ht
    have hl : ¬late (grid0.coords t) := fun h => absurd ((late_iff t).mp h) (by omega)
    rw [Dat.leavesExact_idle (dats m 0 c) 3 t (out_idle t ht) (out_kept t ht)]
    by_cases hz : t.val = 0
    · rw [inv_at m c t, inv_zero m c _ _ hz, launchInv_eq]
      iintro ⟨⟨⟨%a, HS⟩, Hg⟩, Ho, ⟨%d0, H0⟩, ⟨%d1, H1⟩, ⟨%d2, H2⟩, ⟨%d3, H3⟩⟩
      rw [maxAt_zero m c t hz a]
      iapply (run_early c (grid0.coords t) _ _ _ _ _ _ _ _ _ _ he hl (iblk m c 2 t) a Set.univ _)
      isplitl [H2]; · iexact H2
      isplitl [HS]; · iexact HS
      iintro ⟨H2, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [inv_at m c t, inv_pos m c _ _ hz, maxAt_early m c t hz ht]
      iintro ⟨⟨HS, Hg⟩, Ho, ⟨%d0, H0⟩, ⟨%d1, H1⟩, ⟨%d2, H2⟩, ⟨%d3, H3⟩⟩
      iapply (run_early c (grid0.coords t) _ _ _ _ _ _ _ _ _ _ he hl (iblk m c 2 t) _ Set.univ _)
      isplitl [H2]; · iexact H2
      isplitl [HS]; · iexact HS
      iintro ⟨H2, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have h16 : 16 ≤ t.val := by omega
    have he : ¬early (grid0.coords t) := fun h => ht ((early_iff t).mp h)
    have hl : late (grid0.coords t) := (late_iff t).mpr h16
    rw [leaves_3 m c t h16, inv_at m c t, inv_pos m c _ _ (by omega), maxAt_late m c t h16]
    unfold outAt
    iintro ⟨⟨HS, Hg⟩, Ho, ⟨%d0, H0⟩, ⟨%d1, H1⟩, ⟨%d2, H2⟩, ⟨%d3, H3⟩⟩
    iapply (run_late c (grid0.coords t) _ _ _ _ _ _ _ _ _ _ he hl (iblk m c 0 t) (iblk m c 1 t) (iblk m c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

theorem inv_start (c : Dev nD) : Pipeline.ΦA spec0 c ⊢ (dats m 0 c).Φ 0 := by
  rw [show (dats m 0 c).Φ 0 = inv m c 0 (Nat.zero_le _) from rfl, inv_zero m c 0 _ rfl]

theorem inv_end (c : Dev nD) : (dats m 0 c).Φ (Fin.last cfg0.N) ⊢ Pipeline.ΦA spec0 c := by
  have hN : cfg0.N = 32 := N_0
  rw [show (dats m 0 c).Φ (Fin.last cfg0.N) = inv m c (Fin.last cfg0.N).val (Nat.le_of_lt_succ (Fin.last cfg0.N).isLt) from rfl,
    inv_pos m c _ _ (by rw [Fin.val_last]; omega), launchInv_eq]
  iintro ⟨HS, Hg⟩
  isplitl [HS]
  · iexists _; iexact HS
  iexact Hg

-- the launch theorem's implicit arguments are found by unfolding plain definitions in a metavariable's type
set_option backward.isDefEq.respectTransparency.types false in
set_option maxHeartbeats 800000 in
/-- Every execution of the program ends; the arrays of the pipeline hold what the data says, every other buffer what the
    lines around the region leave, and every counter is zero. -/
theorem run : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_start m) (hout := inv_end m)

/-- Every execution ends with the argument unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Body

end
-- ==== Proof.Frames.lean ====
module

public import proofs.«01_k».proof.Defs
public import proofs.«01_k».proof.Proof.Run
public import proofs.«01_k».proof.Proof.RunIdeal
public import proofs.«01_k».proof.Proof.Gen.ReferenceIdeal
public import proofs.«01_k».proof.Proof.Gen.ReferenceIdeal.Run

/-! # The claims besides the value: the three programs run and leave everything else alone, and the named constant -/

@[expose] public section

noncomputable section

namespace Cert.Frames

open Idealize.ShloMosaic Idealize.SL.Sem

/-- The kernel as printed runs at bit patterns, its argument unchanged, its counters zero. -/
theorem kernel : Cert.quiescent_Kernel := fun m ρ _ => Cert.Kernel.Body.quiescent m ρ
/-- So does the idealised one at extended reals. -/
theorem kernelIdeal : Cert.quiescent_KernelIdeal := fun m ρ _ => Cert.KernelIdeal.Body.quiescent m ρ

/-- The reference uses no semaphore, so its run leaves them at zero. -/
theorem reference_run (m) (ρ) : θ_run (Cert.ReferenceIdeal.defs (F := Ideal))
    (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The reference runs at extended reals, its argument unchanged. -/
theorem referenceIdeal : Cert.quiescent_ReferenceIdeal := fun m ρ _ => reference_run m ρ

/-- The idealised kernel differs from the printed one in one constant, named `1 / log 2`. -/
theorem preserves : Cert.preserves_Kernel_KernelIdeal :=
  IdealRules.named_const.statement Cert.KernelIdeal.κ "inv_ln2" .f32 0x3FB8AA3B#32 (((Real.log 2)⁻¹ : ℝ) : EReal) rfl

end Cert.Frames

end
-- ==== Proof.Strip.lean ====
module

public import proofs.«01_k».proof.Proof.BodyIdeal

/-! # One strip of sixteen rows, written once

The body fills its output block in two strips. Both are the same function of the strip's quantised values and left
neighbours; it is written here in small named steps. -/

@[expose] public section

set_option maxRecDepth 16384

noncomputable section

namespace Cert.KernelIdeal.Strip

open Cert.KernelIdeal Cert.KernelIdeal.Gen Cert.KernelIdeal.Body
open Idealize.ShloMosaic Idealize.ShloMosaic.TcCoe Idealize.ShloMosaic.Tactic

variable {F : FTy → Type} [FloatOps F] [Named F]

/-- The sums over the 16 × 16 tiles of a strip: a product with the indicator matrix, then a sum over the rows. -/
def contract (seg : FVec F S512x32 .f32) (v : FVec F S96x16x512 .f32) : FVec F S96x32 .f32 :=
  multiReduction .add [1] S96x32 (shapeCast S96x16x32 (matmul dot_S1536x512_S512x32_S1536x32_1_0_0_1_n_n none
    (shapeCast S1536x512 v shapeCasts_S96x16x512_S1536x512) seg (constant S1536x32 .f32 0x00000000#32))
    shapeCasts_S1536x32_S96x16x32) 0x00000000#32 reduces_S96x16x32_S96x32 (.inl rfl) rfl

/-- A number per tile spread over the tile's positions: repeated over the rows, then multiplied by the transposed matrix. -/
def expand (segT : FVec F S32x512 .f32) (g : FVec F S96x32 .f32) : FVec F S96x16x512 .f32 :=
  shapeCast S96x16x512 (matmul dot_S1536x32_S32x512_S1536x512_1_0_0_1_n_n none
    (shapeCast S1536x32 (broadcastTo S96x16x32 (shapeCast S96x1x32 (shapeCast S96x1x32 g shapeCasts_S96x32_S96x1x32)
      shapeCasts_S96x1x32_S96x1x32) broadcasts_S96x1x32_S96x16x32) shapeCasts_S96x16x32_S1536x32) segT
    (constant S1536x512 .f32 0x00000000#32)) shapeCasts_S1536x512_S96x16x512

/-- The first image, repeated for every image. -/
def image0 (u : FVec F S96x16x512 .f32) : FVec F S96x16x512 .f32 :=
  broadcastTo S96x16x512 (shapeCast S1x16x512 (shapeCast S16x512 (extractStridedSlice S1x16x512 ![0, 0, 0] u
    slices_S96x16x512_o0_0_0_S1x16x512) shapeCasts_S1x16x512_S16x512) shapeCasts_S16x512_S1x16x512) broadcasts_S1x16x512_S96x16x512
/-- The second image, repeated for every image. -/
def image1 (u : FVec F S96x16x512 .f32) : FVec F S96x16x512 .f32 :=
  broadcastTo S96x16x512 (shapeCast S1x16x512 (shapeCast S16x512 (extractStridedSlice S1x16x512 ![1, 0, 0] u
    slices_S96x16x512_o1_0_0_S1x16x512) shapeCasts_S1x16x512_S16x512) shapeCasts_S16x512_S1x16x512) broadcasts_S1x16x512_S96x16x512

/-- The first row of a table of tile sums, and the second. -/
def row0 (t : FVec F S96x32 .f32) : FVec F S1x32 .f32 := extractStridedSlice S1x32 ![0, 0] t slices_S96x32_o0_0_S1x32
def row1 (t : FVec F S96x32 .f32) : FVec F S1x32 .f32 := extractStridedSlice S1x32 ![1, 0] t slices_S96x32_o1_0_S1x32
/-- One number in all 32 columns. -/
def fill (b : BitVec 32) : FVec F S1x32 .f32 := broadcast S1x32 (Scalar.ofBits .f32 b)

/-- One coefficient of every image: three scaled tables of tile sums added. -/
def blend (p q r : FVec F S1x32 .f32) (t1 t2 t3 : FVec F S96x32 .f32) : FVec F S96x32 .f32 :=
  addf (addf (mulf (broadcastTo S96x32 p broadcasts_S1x32_S96x32) t1) (mulf (broadcastTo S96x32 q broadcasts_S1x32_S96x32) t2))
    (mulf (broadcastTo S96x32 r broadcasts_S1x32_S96x32) t3)

/-- The reciprocal of the determinant, one where it is zero. -/
def recip (d : FVec F S1x32 .f32) : FVec F S1x32 .f32 :=
  divf (fill 0x3F800000#32) (select (cmpf .oeq d (fill 0x00000000#32)) (fill 0x3F800000#32) d)
/-- An entry of the inverse: cofactor times reciprocal, and the fixed entry `b` where the determinant is zero. -/
def entry (d c : FVec F S1x32 .f32) (b : BitVec 32) : FVec F S1x32 .f32 :=
  select (cmpf .oeq d (fill 0x00000000#32)) (fill b) (mulf c (recip d))

/-- The three coefficients of every image from the tables of tile sums. -/
def coeffs (t1 t2 t3 : FVec F S96x32 .f32) : FVec F S96x32 .f32 × FVec F S96x32 .f32 × FVec F S96x32 .f32 :=
  let c11 := subf (mulf (row1 t2) (fill 0x43800000#32)) (mulf (row1 t3) (row1 t3))
  let c12 := subf (mulf (row0 t3) (row1 t3)) (mulf (row1 t1) (fill 0x43800000#32))
  let c13 := subf (mulf (row1 t1) (row1 t3)) (mulf (row0 t3) (row1 t2))
  let c22 := subf (mulf (row0 t1) (fill 0x43800000#32)) (mulf (row0 t3) (row0 t3))
  let c23 := subf (mulf (row1 t1) (row0 t3)) (mulf (row0 t1) (row1 t3))
  let c33 := subf (mulf (row0 t1) (row1 t2)) (mulf (row1 t1) (row1 t1))
  let d := addf (addf (mulf (row0 t1) c11) (mulf (row1 t1) c12)) (mulf (row0 t3) c13)
  let e11 := entry d c11 0x3F800000#32
  let e12 := entry d c12 0x00000000#32
  let e13 := entry d c13 0x00000000#32
  let e22 := entry d c22 0x3F800000#32
  let e23 := entry d c23 0x00000000#32
  let e33 := entry d c33 0x3F800000#32
  (blend e11 e12 e13 t1 t2 t3, blend e12 e22 e23 t1 t2 t3, blend e13 e23 e33 t1 t2 t3)

/-- The rounded combination of the first image, the second one and the constant one. -/
def fitted (segT : FVec F S32x512 .f32) (u : FVec F S96x16x512 .f32) (k : FVec F S96x32 .f32 × FVec F S96x32 .f32 × FVec F S96x32 .f32) :
    FVec F S96x16x512 .f32 :=
  roundeven (addf (addf (mulf (expand segT k.1) (image0 u)) (mulf (expand segT k.2.1) (image1 u))) (expand segT k.2.2))

/-- One where the squared error of a tile is at most one, zero elsewhere. -/
def keep (L : F .f32) (loss : FVec F S96x32 .f32) : FVec F S96x32 .f32 :=
  sitofp .f32 (extui 32 (cmpf .ole (mulf loss (broadcast S96x32 (Scalar.mulf L L)))
    (broadcast S96x32 (Scalar.ofBits .f32 0x3F800000#32))) natLt_1_32)

/-- The strip from the quantiser's step, the quantised values and the left neighbours. -/
def strip (L : F .f32) (seg : FVec F S512x32 .f32) (segT : FVec F S32x512 .f32) (u xl : FVec F S96x16x512 .f32) :
    FVec F S96x16x512 .f32 :=
  let r := fitted segT u (coeffs (contract seg (mulf u (image0 u))) (contract seg (mulf u (image1 u))) (contract seg u))
  let e := subf u r
  addf (mulf (subf u (mulf (expand segT (keep L (contract seg (mulf e e)))) e)) (broadcast S96x16x512 L)) xl

/-- The first strip of the block is that function of its rows 0 to 15. -/
theorem strip0_eq (seg : Vec F S512x32 .f32) (segT : Vec F S32x512 .f32) (x : Vec F S96x32x512 .f32) (a : Vec F S8x128 .f32) :
    strip0 seg segT x a = strip (k0_pay2 a) (k0_pay6 seg) (k0_pay7 segT)
      (extractStridedSlice S96x16x512 ![0, 0, 0] (k0_pay5 a x) slices_S96x32x512_o0_0_0_S96x16x512)
      (extractStridedSlice S96x16x512 ![0, 0, 0] (k0_pay4 x) slices_S96x32x512_o0_0_0_S96x16x512) := by sl_kernel_rfl

/-- The second strip is the same function of rows 16 to 31. -/
theorem strip1_eq (seg : Vec F S512x32 .f32) (segT : Vec F S32x512 .f32) (x : Vec F S96x32x512 .f32) (a : Vec F S8x128 .f32) :
    strip1 seg segT x a = strip (k0_pay2 a) (k0_pay6 seg) (k0_pay7 segT)
      (extractStridedSlice S96x16x512 ![0, 16, 0] (k0_pay5 a x) slices_S96x32x512_o0_16_0_S96x16x512)
      (extractStridedSlice S96x16x512 ![0, 16, 0] (k0_pay4 x) slices_S96x32x512_o0_16_0_S96x16x512) := by sl_kernel_rfl

end Cert.KernelIdeal.Strip
-- ==== Proof.Spec.lean ====
module

public import Idealize.ShloMosaic.Lib.ValueIdx
public import Idealize.ShloMosaic.Lib.IdealHost
public import Idealize.ShloMosaic.Lib.Pipeline.Value
public import Mathlib.Tactic.FieldSimp
public import Mathlib.Tactic.LinearCombination

/-! # The real-number fit of one tile

A tile holds 16 × 16 quantised numbers of each of the 96 images. Every image is fitted by least squares to the first
image, the second one and the constant one; the fit is rounded, and it replaces the image where the squared error is
small. Both programs are shown to compute this. -/

@[expose] public section

noncomputable section

namespace Cert.Val

open Idealize.ShloMosaic Idealize.ShloMosaic.ValueIdx

/-- The numbers of one tile: image, row, column. -/
abbrev Tile := Fin 96 → Fin 16 → Fin 16 → ℝ

/-- Rounding to the nearest integer, ties to even. -/
def rnd (x : ℝ) : ℝ := (Ideal.roundHalfEven x : ℝ)

variable (T : Tile)

/-- The sum of products of two images, and the sum of one. -/
def dot (n m : Fin 96) : ℝ := ∑ r : Fin 16, ∑ c : Fin 16, T n r c * T m r c
def tot (n : Fin 96) : ℝ := ∑ r : Fin 16, ∑ c : Fin 16, T n r c

/-- The cofactors of the symmetric 3 × 3 matrix of those sums. -/
def c11 : ℝ := dot T 1 1 * 256 - tot T 1 * tot T 1
def c12 : ℝ := tot T 0 * tot T 1 - dot T 1 0 * 256
def c13 : ℝ := dot T 1 0 * tot T 1 - tot T 0 * dot T 1 1
def c22 : ℝ := dot T 0 0 * 256 - tot T 0 * tot T 0
def c23 : ℝ := dot T 1 0 * tot T 0 - dot T 0 0 * tot T 1
def c33 : ℝ := dot T 0 0 * dot T 1 1 - dot T 1 0 * dot T 1 0
/-- Its determinant. -/
def gdet : ℝ := dot T 0 0 * c11 T + dot T 1 0 * c12 T + tot T 0 * c13 T

/-- The three coefficients of an image. -/
def k1 (n : Fin 96) : ℝ :=
  c11 T * (1 / gdet T) * dot T n 0 + c12 T * (1 / gdet T) * dot T n 1 + c13 T * (1 / gdet T) * tot T n
def k2 (n : Fin 96) : ℝ :=
  c12 T * (1 / gdet T) * dot T n 0 + c22 T * (1 / gdet T) * dot T n 1 + c23 T * (1 / gdet T) * tot T n
def k3 (n : Fin 96) : ℝ :=
  c13 T * (1 / gdet T) * dot T n 0 + c23 T * (1 / gdet T) * dot T n 1 + c33 T * (1 / gdet T) * tot T n

/-- The fit before rounding. -/
def fit (n : Fin 96) (r c : Fin 16) : ℝ := k1 T n * T 0 r c + k2 T n * T 1 r c + k3 T n
/-- The squared error of the rounded fit. -/
def loss (n : Fin 96) : ℝ :=
  ∑ r : Fin 16, ∑ c : Fin 16, (T n r c - rnd (fit T n r c)) * (T n r c - rnd (fit T n r c))
/-- What the tile becomes at the quantiser's step `L`. -/
def fitted (L : ℝ) (n : Fin 96) (r c : Fin 16) : ℝ :=
  (if loss T n * (L * L) ≤ 1 then rnd (fit T n r c) else T n r c) * L

/-- Column `c` of the sixteen of tile `a`; the rows of the tiles are numbered the same way. -/
def col (a : Fin 32) (c : Fin 16) : Fin 512 := ⟨16 * a.val + c.val, by omega⟩
theorem col_div (w : Fin 512) : col ⟨w.val / 16, by omega⟩ ⟨w.val % 16, by omega⟩ = w := Fin.ext (by simp [col]; omega)
theorem exists_col (w : Fin 512) : ∃ a c, w = col a c := ⟨_, _, (col_div w).symm⟩

/-- Every column is one of the sixteen of one of the 32 tiles. -/
def colEquiv : Fin 32 × Fin 16 ≃ Fin 512 where
  toFun p := col p.1 p.2
  invFun w := (⟨w.val / 16, by omega⟩, ⟨w.val % 16, by omega⟩)
  left_inv p := by
    obtain ⟨⟨a, ha⟩, ⟨c, hc⟩⟩ := p
    simp only [col, Prod.mk.injEq, Fin.mk.injEq]; omega
  right_inv w := col_div w

/-- A sum over the columns is the sum over the tiles of the sums over their columns. -/
theorem sum_col {M : Type*} [AddCommMonoid M] (f : Fin 512 → M) : ∑ w, f w = ∑ a : Fin 32, ∑ c : Fin 16, f (col a c) := by
  rw [← Equiv.sum_comp colEquiv, Fintype.sum_prod_type]; rfl

/-- The sum of real numbers, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_sum2 {ι κ : Type*} [Fintype ι] [Fintype κ] (f : ι → κ → ℝ) :
    ∑ i, ∑ j, (f i j : EReal) = ((∑ i, ∑ j, f i j : ℝ) : EReal) := by
  rw [coe_sum]; exact Finset.sum_congr rfl fun i _ => (coe_sum _ _).symm

/-- The bit patterns the programs use. -/
theorem bits_zero : Ideal.ofBits .f32 0x00000000#32 = ((0 : ℝ) : EReal) := by simp [Ideal.ofBits, Ideal.ieee]
theorem bits_one : Ideal.ofBits .f32 0x3F800000#32 = ((1 : ℝ) : EReal) := by simp only [Ideal.ofBits, Ideal.ieee, BitVec.toNat_ofNat, BitVec.reduceExtractLsb']; norm_num [Nat.shiftRight_eq_div_pow]; decide
theorem bits_two : Ideal.ofBits .f32 0x40000000#32 = ((2 : ℝ) : EReal) := by simp only [Ideal.ofBits, Ideal.ieee, BitVec.toNat_ofNat, BitVec.reduceExtractLsb']; norm_num [Nat.shiftRight_eq_div_pow]; decide
theorem bits_128 : Ideal.ofBits .f32 0x43000000#32 = ((128 : ℝ) : EReal) := by simp only [Ideal.ofBits, Ideal.ieee, BitVec.toNat_ofNat, BitVec.reduceExtractLsb']; norm_num [Nat.shiftRight_eq_div_pow]; decide
theorem bits_256 : Ideal.ofBits .f32 0x43800000#32 = ((256 : ℝ) : EReal) := by simp only [Ideal.ofBits, Ideal.ieee, BitVec.toNat_ofNat, BitVec.reduceExtractLsb']; norm_num [Nat.shiftRight_eq_div_pow]; decide
theorem bits_bot : Ideal.ofBits .f32 0xFF800000#32 = ⊥ := by simp [Ideal.ofBits, Ideal.ieee]

/-- A quotient of real numbers by a nonzero one. -/
theorem div_real (x y : ℝ) (h : y ≠ 0) : Ideal.div (x : EReal) (y : EReal) = ((x / y : ℝ) : EReal) := by
  rw [Ideal.div_coe h, ← EReal.coe_mul]; congr 1; ring

end Cert.Val
-- ==== Proof.Reductions.lean ====
module

public import proofs.«01_k».proof.Proof.Gen.KernelIdeal.Skeleton
public import Idealize.ShloMosaic.Lib.ValueIdx
import Idealize.ShloMosaic.Lib.Pointwise.Reduce

/-! # The kernel's sum over a strip's rows, read at an index -/

@[expose] public section

noncomputable section

namespace Cert.KernelIdeal.Strip

open Cert.KernelIdeal Cert.KernelIdeal.Gen
open Idealize.ShloMosaic Idealize.ShloMosaic.TcCoe

/-- The sum over the sixteen rows. -/
theorem reduce_rows (M : FVec Ideal S96x16x32 .f32) (hφ : FKind.Formats .f32)
    (hacc : (0x00000000#32 : BitVec 32) = FKind.add.neutral .f32 hφ) (n : Fin 96) (a : Fin 32) :
    multiReduction .add [1] S96x32 M 0x00000000#32 reduces_S96x16x32_S96x32 hφ hacc (ValueIdx.ix2 n a)
      = ∑ r : Fin 16, M (ValueIdx.ix3 n r a) := by
  rw [multiReduction_add_apply, Ideal.reduceAdd_def, Ideal.reduceAdd_r3_a1]
  rfl

end Cert.KernelIdeal.Strip
-- ==== Proof.StripValue.lean ====
module

public import proofs.«01_k».proof.Proof.Strip
public import proofs.«01_k».proof.Proof.Spec
public import proofs.«01_k».proof.Proof.Reductions
public import Idealize.ShloMosaic.Lib.MatmulPlain

/-! # What a strip is, over the reals

With real quantised values whose tiles have nonzero determinants, the strip is the fitted tile times the step, plus the
left neighbours. -/

@[expose] public section

set_option maxRecDepth 16384

noncomputable section

namespace Cert.KernelIdeal.Strip

open Cert.KernelIdeal Cert.KernelIdeal.Gen Cert.KernelIdeal.Body Cert.Val
open Idealize.ShloMosaic Idealize.ShloMosaic.TcCoe Idealize.ShloMosaic.ValueIdx

/-- Row `16 n + r` of the stacked images. -/
def stack (n : Fin 96) (r : Fin 16) : Fin 1536 := ⟨16 * n.val + r.val, by omega⟩

theorem cast_in (v : FVec Ideal S96x16x512 .f32) (n : Fin 96) (r : Fin 16) (w : Fin 512) :
    shapeCast S1536x512 v shapeCasts_S96x16x512_S1536x512 (ix2 (stack n r) w) = v (ix3 n r w) :=
  shapeCast_apply _ _ _ _ (by rw [Shape.rowMajor_val_three, Shape.rowMajor_val_two]; show (n.val * 16 + r.val) * 512 + w.val = (16 * n.val + r.val) * 512 + w.val; omega)
theorem cast_out (v : FVec Ideal S1536x32 .f32) (n : Fin 96) (r : Fin 16) (a : Fin 32) :
    shapeCast S96x16x32 v shapeCasts_S1536x32_S96x16x32 (ix3 n r a) = v (ix2 (stack n r) a) :=
  shapeCast_apply _ _ _ _ (by rw [Shape.rowMajor_val_three, Shape.rowMajor_val_two]; show (16 * n.val + r.val) * 32 + a.val = (n.val * 16 + r.val) * 32 + a.val; omega)
theorem cast_back (v : FVec Ideal S1536x512 .f32) (n : Fin 96) (r : Fin 16) (w : Fin 512) :
    shapeCast S96x16x512 v shapeCasts_S1536x512_S96x16x512 (ix3 n r w) = v (ix2 (stack n r) w) :=
  shapeCast_apply _ _ _ _ (by rw [Shape.rowMajor_val_three, Shape.rowMajor_val_two]; show (16 * n.val + r.val) * 512 + w.val = (n.val * 16 + r.val) * 512 + w.val; omega)
theorem cast_tiles (v : FVec Ideal S96x16x32 .f32) (n : Fin 96) (r : Fin 16) (a : Fin 32) :
    shapeCast S1536x32 v shapeCasts_S96x16x32_S1536x32 (ix2 (stack n r) a) = v (ix3 n r a) :=
  shapeCast_apply _ _ _ _ (by rw [Shape.rowMajor_val_three, Shape.rowMajor_val_two]; show (n.val * 16 + r.val) * 32 + a.val = (16 * n.val + r.val) * 32 + a.val; omega)

/-- The indicator matrix of the tiles' columns, and its transpose. -/
def IsSeg (seg : FVec Ideal S512x32 .f32) : Prop :=
  ∀ (b : Fin 32) (c : Fin 16) (a : Fin 32), seg (ix2 (col b c) a) = ((if b = a then 1 else 0 : ℝ) : EReal)
def IsSegT (segT : FVec Ideal S32x512 .f32) : Prop :=
  ∀ (a b : Fin 32) (c : Fin 16), segT (ix2 a (col b c)) = ((if b = a then 1 else 0 : ℝ) : EReal)

/-- The tile sums of real numbers. -/
theorem contract_apply {seg : FVec Ideal S512x32 .f32} (hs : IsSeg seg) (v : FVec Ideal S96x16x512 .f32)
    (V : Fin 32 → Fin 96 → Fin 16 → Fin 16 → ℝ) (hv : ∀ n r a c, v (ix3 n r (col a c)) = (V a n r c : EReal)) (n : Fin 96) (a : Fin 32) :
    contract seg v (ix2 n a) = ((∑ r : Fin 16, ∑ c : Fin 16, V a n r c : ℝ) : EReal) := by
  unfold contract
  refine (reduce_rows _ _ _ n a).trans ?_
  rw [← coe_sum2]
  refine Finset.sum_congr rfl fun r _ => ?_
  rw [cast_out]
  refine (Ideal.matmul_plain_apply none _ seg _ (stack n r) a).trans ?_
  rw [sum_col, constant_apply, bits_zero, EReal.coe_zero, zero_add, Finset.sum_eq_single a]
  · refine Finset.sum_congr rfl fun c _ => ?_
    rw [cast_in, hv, hs, if_pos rfl, EReal.coe_one, mul_one]
  · intro b _ hb
    refine Finset.sum_eq_zero fun c _ => ?_
    rw [hs, if_neg hb, EReal.coe_zero, mul_zero]
  · intro h; exact absurd (Finset.mem_univ _) h

/-- A number per tile at one of the tile's positions. -/
theorem expand_apply {segT : FVec Ideal S32x512 .f32} (hs : IsSegT segT) (g : FVec Ideal S96x32 .f32)
    (n : Fin 96) (r : Fin 16) (a : Fin 32) (c : Fin 16) : expand segT g (ix3 n r (col a c)) = g (ix2 n a) := by
  refine (cast_back _ n r (col a c)).trans ((Ideal.matmul_plain_apply none _ _ _ (stack n r) (col a c)).trans ?_)
  rw [constant_apply, bits_zero, EReal.coe_zero, zero_add, Finset.sum_eq_single a]
  · rw [hs, if_pos rfl, EReal.coe_one, mul_one, cast_tiles]
    refine (broadcastTo_apply _ _ _ (ix3 n 0 a) (fun d => by match d with | ⟨0, _⟩ => rfl | ⟨1, _⟩ => rfl | ⟨2, _⟩ => rfl)).trans ?_
    rw [shapeCast_self]
    exact shapeCast_apply _ _ _ (ix2 n a) (by
      rw [Shape.rowMajor_val_three, Shape.rowMajor_val_two]; show n.val * 32 + a.val = (n.val * 1 + 0) * 32 + a.val; omega)
  · intro b _ hb
    rw [hs, if_neg (Ne.symm hb), EReal.coe_zero, mul_zero]
  · intro h; exact absurd (Finset.mem_univ _) h

theorem image0_apply (u : FVec Ideal S96x16x512 .f32) (n : Fin 96) (r : Fin 16) (w : Fin 512) :
    image0 u (ix3 n r w) = u (ix3 0 r w) := by
  refine (broadcastTo_apply _ _ _ (ix3 0 r w) (fun d => by match d with | ⟨0, _⟩ => rfl | ⟨1, _⟩ => rfl | ⟨2, _⟩ => rfl)).trans ?_
  refine (shapeCast_apply _ _ _ (ix2 r w) (by rw [Shape.rowMajor_val_three, Shape.rowMajor_val_two]; show r.val * 512 + w.val = (0 * 16 + r.val) * 512 + w.val; omega)).trans ?_
  refine (shapeCast_apply _ _ _ (ix3 0 r w) (by rw [Shape.rowMajor_val_three, Shape.rowMajor_val_two]; show (0 * 16 + r.val) * 512 + w.val = r.val * 512 + w.val; omega)).trans ?_
  exact extractStridedSlice_apply _ _ _ _ _ (fun d => by
    match d with | ⟨0, _⟩ => rfl | ⟨1, _⟩ => exact (Nat.zero_add _).symm | ⟨2, _⟩ => exact (Nat.zero_add _).symm)
theorem image1_apply (u : FVec Ideal S96x16x512 .f32) (n : Fin 96) (r : Fin 16) (w : Fin 512) :
    image1 u (ix3 n r w) = u (ix3 1 r w) := by
  refine (broadcastTo_apply _ _ _ (ix3 0 r w) (fun d => by match d with | ⟨0, _⟩ => rfl | ⟨1, _⟩ => rfl | ⟨2, _⟩ => rfl)).trans ?_
  refine (shapeCast_apply _ _ _ (ix2 r w) (by rw [Shape.rowMajor_val_three, Shape.rowMajor_val_two]; show r.val * 512 + w.val = (0 * 16 + r.val) * 512 + w.val; omega)).trans ?_
  refine (shapeCast_apply _ _ _ (ix3 0 r w) (by rw [Shape.rowMajor_val_three, Shape.rowMajor_val_two]; show (0 * 16 + r.val) * 512 + w.val = r.val * 512 + w.val; omega)).trans ?_
  exact extractStridedSlice_apply _ _ _ _ _ (fun d => by
    match d with | ⟨0, _⟩ => rfl | ⟨1, _⟩ => exact (Nat.zero_add _).symm | ⟨2, _⟩ => exact (Nat.zero_add _).symm)

theorem row0_apply (t : FVec Ideal S96x32 .f32) (a : Fin 32) : row0 t (ix2 0 a) = t (ix2 0 a) :=
  extractStridedSlice_apply _ _ _ _ _ (fun d => by match d with | ⟨0, _⟩ => rfl | ⟨1, _⟩ => exact (Nat.zero_add _).symm)
theorem row1_apply (t : FVec Ideal S96x32 .f32) (a : Fin 32) : row1 t (ix2 0 a) = t (ix2 1 a) :=
  extractStridedSlice_apply _ _ _ _ _ (fun d => by match d with | ⟨0, _⟩ => rfl | ⟨1, _⟩ => exact (Nat.zero_add _).symm)
theorem fill_apply (b : BitVec 32) (i : S1x32.Idx) : fill (F := Ideal) b i = Ideal.ofBits .f32 b := rfl

theorem spread_apply (p : FVec Ideal S1x32 .f32) (n : Fin 96) (a : Fin 32) :
    broadcastTo S96x32 p broadcasts_S1x32_S96x32 (ix2 n a) = p (ix2 0 a) :=
  broadcastTo_apply _ _ _ _ (fun d => by match d with | ⟨0, _⟩ => rfl | ⟨1, _⟩ => rfl)

/-- An entry of the inverse where the determinant is a nonzero real number. -/
theorem entry_apply (d c : FVec Ideal S1x32 .f32) (b : BitVec 32) (i : S1x32.Idx) (D C : ℝ) (hd : d i = (D : EReal))
    (hc : c i = (C : EReal)) (h : D ≠ 0) : entry d c b i = ((C * (1 / D) : ℝ) : EReal) := by
  have hz : cmpf .oeq d (fill 0x00000000#32) i = 0#1 := by
    show Ideal.cmp .oeq (d i) (Ideal.ofBits .f32 0x00000000#32) = 0#1
    rw [hd, bits_zero]
    simp [Ideal.cmp, h]
  show Scalar.select (cmpf .oeq d (fill 0x00000000#32) i) _ (c i * Ideal.div (Ideal.ofBits .f32 0x3F800000#32)
    (Scalar.select (cmpf .oeq d (fill 0x00000000#32) i) _ (d i))) = _
  rw [hz, select_zero, select_zero, hc, hd, bits_one, div_real _ _ h, ← EReal.coe_mul]

theorem blend_apply (p q r : FVec Ideal S1x32 .f32) (t1 t2 t3 : FVec Ideal S96x32 .f32) (n : Fin 96) (a : Fin 32)
    (P Q R A B C : ℝ) (hp : p (ix2 0 a) = (P : EReal)) (hq : q (ix2 0 a) = (Q : EReal)) (hr : r (ix2 0 a) = (R : EReal))
    (h1 : t1 (ix2 n a) = (A : EReal)) (h2 : t2 (ix2 n a) = (B : EReal)) (h3 : t3 (ix2 n a) = (C : EReal)) :
    blend p q r t1 t2 t3 (ix2 n a) = ((P * A + Q * B + R * C : ℝ) : EReal) := by
  show broadcastTo S96x32 p _ (ix2 n a) * t1 (ix2 n a) + broadcastTo S96x32 q _ (ix2 n a) * t2 (ix2 n a)
    + broadcastTo S96x32 r _ (ix2 n a) * t3 (ix2 n a) = _
  rw [spread_apply, spread_apply, spread_apply, hp, hq, hr, h1, h2, h3]
  norm_cast

/-- The coefficients of an image from real tile sums. -/
theorem coeffs_apply (t1 t2 t3 : FVec Ideal S96x32 .f32) (T : Tile) (a : Fin 32) (hT : gdet T ≠ 0)
    (h1 : ∀ n, t1 (ix2 n a) = (dot T n 0 : EReal)) (h2 : ∀ n, t2 (ix2 n a) = (dot T n 1 : EReal))
    (h3 : ∀ n, t3 (ix2 n a) = (tot T n : EReal)) (n : Fin 96) :
    (coeffs t1 t2 t3).1 (ix2 n a) = (k1 T n : EReal) ∧ (coeffs t1 t2 t3).2.1 (ix2 n a) = (k2 T n : EReal)
      ∧ (coeffs t1 t2 t3).2.2 (ix2 n a) = (k3 T n : EReal) := by
  have e11 : (subf (mulf (row1 t2) (fill 0x43800000#32)) (mulf (row1 t3) (row1 t3))) (ix2 0 a) = (c11 T : EReal) := by
    simp only [subf_apply, mulf_apply, row0_apply, row1_apply, fill_apply, h1, h2, h3, bits_256]; norm_cast
  have e12 : (subf (mulf (row0 t3) (row1 t3)) (mulf (row1 t1) (fill 0x43800000#32))) (ix2 0 a) = (c12 T : EReal) := by
    simp only [subf_apply, mulf_apply, row0_apply, row1_apply, fill_apply, h1, h2, h3, bits_256]; norm_cast
  have e13 : (subf (mulf (row1 t1) (row1 t3)) (mulf (row0 t3) (row1 t2))) (ix2 0 a) = (c13 T : EReal) := by
    simp only [subf_apply, mulf_apply, row0_apply, row1_apply, fill_apply, h1, h2, h3, bits_256]; norm_cast
  have e22 : (subf (mulf (row0 t1) (fill 0x43800000#32)) (mulf (row0 t3) (row0 t3))) (ix2 0 a) = (c22 T : EReal) := by
    simp only [subf_apply, mulf_apply, row0_apply, row1_apply, fill_apply, h1, h2, h3, bits_256]; norm_cast
  have e23 : (subf (mulf (row1 t1) (row0 t3)) (mulf (row0 t1) (row1 t3))) (ix2 0 a) = (c23 T : EReal) := by
    simp only [subf_apply, mulf_apply, row0_apply, row1_apply, fill_apply, h1, h2, h3, bits_256]; norm_cast
  have e33 : (subf (mulf (row0 t1) (row1 t2)) (mulf (row1 t1) (row1 t1))) (ix2 0 a) = (c33 T : EReal) := by
    simp only [subf_apply, mulf_apply, row0_apply, row1_apply, fill_apply, h1, h2, h3, bits_256]; norm_cast
  unfold coeffs
  generalize subf (mulf (row1 t2) (fill 0x43800000#32)) (mulf (row1 t3) (row1 t3)) = m11 at e11 ⊢
  generalize subf (mulf (row0 t3) (row1 t3)) (mulf (row1 t1) (fill 0x43800000#32)) = m12 at e12 ⊢
  generalize subf (mulf (row1 t1) (row1 t3)) (mulf (row0 t3) (row1 t2)) = m13 at e13 ⊢
  generalize subf (mulf (row0 t1) (fill 0x43800000#32)) (mulf (row0 t3) (row0 t3)) = m22 at e22 ⊢
  generalize subf (mulf (row1 t1) (row0 t3)) (mulf (row0 t1) (row1 t3)) = m23 at e23 ⊢
  generalize subf (mulf (row0 t1) (row1 t2)) (mulf (row1 t1) (row1 t1)) = m33 at e33 ⊢
  have ed : (addf (addf (mulf (row0 t1) m11) (mulf (row1 t1) m12)) (mulf (row0 t3) m13)) (ix2 0 a) = (gdet T : EReal) := by
    simp only [addf_apply, mulf_apply, row0_apply, row1_apply, h1, h3, e11, e12, e13]; norm_cast
  refine ⟨?_, ?_, ?_⟩
  · exact blend_apply _ _ _ _ _ _ _ _ _ _ _ _ _ _ (entry_apply _ _ _ _ _ _ ed e11 hT) (entry_apply _ _ _ _ _ _ ed e12 hT)
      (entry_apply _ _ _ _ _ _ ed e13 hT) (h1 n) (h2 n) (h3 n)
  · exact blend_apply _ _ _ _ _ _ _ _ _ _ _ _ _ _ (entry_apply _ _ _ _ _ _ ed e12 hT) (entry_apply _ _ _ _ _ _ ed e22 hT)
      (entry_apply _ _ _ _ _ _ ed e23 hT) (h1 n) (h2 n) (h3 n)
  · exact blend_apply _ _ _ _ _ _ _ _ _ _ _ _ _ _ (entry_apply _ _ _ _ _ _ ed e13 hT) (entry_apply _ _ _ _ _ _ ed e23 hT)
      (entry_apply _ _ _ _ _ _ ed e33 hT) (h1 n) (h2 n) (h3 n)

theorem keep_apply (L : ℝ) (s : FVec Ideal S96x32 .f32) (i : S96x32.Idx) (S : ℝ) (h : s i = (S : EReal)) :
    keep (F := Ideal) (L : EReal) s i = ((if S * (L * L) ≤ 1 then 1 else 0 : ℝ) : EReal) := by
  show (((((Ideal.cmp .ole (s i * ((L : EReal) * (L : EReal))) (Ideal.ofBits .f32 0x3F800000#32)).setWidth 32).toInt : ℤ) : ℝ) : EReal) = _
  rw [h, bits_one, ← EReal.coe_mul, ← EReal.coe_mul]
  by_cases hl : S * (L * L) ≤ 1
  · rw [if_pos hl]
    have : Ideal.cmp .ole ((S * (L * L) : ℝ) : EReal) ((1 : ℝ) : EReal) = 1#1 := by
      simp only [Ideal.cmp, EReal.coe_le_coe_iff, hl]; rfl
    rw [this]; norm_num
  · rw [if_neg hl]
    have : Ideal.cmp .ole ((S * (L * L) : ℝ) : EReal) ((1 : ℝ) : EReal) = 0#1 := by
      simp only [Ideal.cmp, EReal.coe_le_coe_iff, hl]; rfl
    rw [this]; norm_num

/-- **The strip over the reals.** -/
theorem strip_apply (L : ℝ) {seg : FVec Ideal S512x32 .f32} (hs : IsSeg seg) {segT : FVec Ideal S32x512 .f32} (hsT : IsSegT segT)
    (u xl : FVec Ideal S96x16x512 .f32) (U : Fin 32 → Tile) (hu : ∀ n r a c, u (ix3 n r (col a c)) = (U a n r c : EReal))
    (hd : ∀ a, gdet (U a) ≠ 0) (n : Fin 96) (r : Fin 16) (a : Fin 32) (c : Fin 16) :
    strip (F := Ideal) (L : EReal) seg segT u xl (ix3 n r (col a c))
      = (Val.fitted (U a) L n r c : EReal) + xl (ix3 n r (col a c)) := by
  have h1 (a : Fin 32) (n : Fin 96) : contract seg (mulf u (image0 u)) (ix2 n a) = (dot (U a) n 0 : EReal) :=
    contract_apply hs _ (fun a n r c => U a n r c * U a 0 r c) (fun n r a c => by
      rw [mulf_apply, image0_apply, hu, hu, ← EReal.coe_mul]) n a
  have h2 (a : Fin 32) (n : Fin 96) : contract seg (mulf u (image1 u)) (ix2 n a) = (dot (U a) n 1 : EReal) :=
    contract_apply hs _ (fun a n r c => U a n r c * U a 1 r c) (fun n r a c => by
      rw [mulf_apply, image1_apply, hu, hu, ← EReal.coe_mul]) n a
  have h3 (a : Fin 32) (n : Fin 96) : contract seg u (ix2 n a) = (tot (U a) n : EReal) :=
    contract_apply hs _ (fun a n r c => U a n r c) hu n a
  have hk (a : Fin 32) (n : Fin 96) := coeffs_apply _ _ _ (U a) a (hd a) (h1 a) (h2 a) (h3 a) n
  unfold strip
  generalize coeffs (contract seg (mulf u (image0 u))) (contract seg (mulf u (image1 u))) (contract seg u) = k at hk ⊢
  have hf (n : Fin 96) (r : Fin 16) (a : Fin 32) (c : Fin 16) :
      fitted segT u k (ix3 n r (col a c)) = (rnd (fit (U a) n r c) : EReal) := by
    show Ideal.liftRound Ideal.roundHalfEven (expand segT k.1 (ix3 n r (col a c)) * image0 u (ix3 n r (col a c))
      + expand segT k.2.1 (ix3 n r (col a c)) * image1 u (ix3 n r (col a c)) + expand segT k.2.2 (ix3 n r (col a c))) = _
    rw [expand_apply hsT, expand_apply hsT, expand_apply hsT, (hk a n).1, (hk a n).2.1, (hk a n).2.2, image0_apply, image1_apply, hu, hu,
      ← EReal.coe_mul, ← EReal.coe_mul, ← EReal.coe_add, ← EReal.coe_add]
    rfl
  generalize fitted segT u k = f at hf ⊢
  have he (n : Fin 96) (r : Fin 16) (a : Fin 32) (c : Fin 16) :
      subf u f (ix3 n r (col a c)) = ((U a n r c - rnd (fit (U a) n r c) : ℝ) : EReal) := by
    rw [subf_apply, hu, hf, ← EReal.coe_sub]
  have hl (a : Fin 32) (n : Fin 96) : contract seg (mulf (subf u f) (subf u f)) (ix2 n a) = (loss (U a) n : EReal) :=
    contract_apply hs _ (fun a n r c => (U a n r c - rnd (fit (U a) n r c)) * (U a n r c - rnd (fit (U a) n r c)))
      (fun n r a c => by rw [mulf_apply, he, ← EReal.coe_mul]) n a
  show (u (ix3 n r (col a c)) - expand segT (keep (L : EReal) (contract seg (mulf (subf u f) (subf u f)))) (ix3 n r (col a c))
    * subf u f (ix3 n r (col a c))) * (L : EReal) + xl (ix3 n r (col a c)) = _
  rw [expand_apply hsT, keep_apply _ _ _ _ (hl a n), hu, he, ← EReal.coe_mul, ← EReal.coe_sub, ← EReal.coe_mul]
  congr 2
  unfold Val.fitted
  split <;> ring

end Cert.KernelIdeal.Strip
-- ==== Proof.Input.lean ====
module

public import proofs.«01_k».proof.Proof.Spec

/-! # The differences, their largest magnitude and the quantiser's step

The argument is 96 images of 512 × 512 numbers. Each number's left neighbour is subtracted from it, the largest
magnitude of the differences fixes the quantiser's step, a power of two, and each difference is divided by the step and
rounded. -/

@[expose] public section

noncomputable section

namespace Cert.Val

open Idealize.ShloMosaic Idealize.ShloMosaic.ValueIdx

/-- The argument. -/
abbrev Arr := (⟨4, ![1, 96, 512, 512]⟩ : Shape).Idx → EReal

variable (X : Arr)

/-- The left neighbour, zero in the first column. -/
def left (n : Fin 96) (h w : Fin 512) : EReal :=
  if w.val = 0 then 0 else X (ix4 0 n h ⟨w.val - 1, by omega⟩)
/-- The difference from the left neighbour. -/
def diff (n : Fin 96) (h w : Fin 512) : EReal := X (ix4 0 n h w) - left X n h w
/-- Its magnitude. -/
def mag (n : Fin 96) (h w : Fin 512) : EReal := max (diff X n h w) (-diff X n h w)

/-- `p` is the largest magnitude. -/
def IsPeak (p : EReal) : Prop := ∀ y, p ≤ y ↔ ∀ n h w, mag X n h w ≤ y

theorem IsPeak.unique {p q : EReal} (hp : IsPeak X p) (hq : IsPeak X q) : p = q :=
  eq_of_forall_ge_iff fun y => (hp y).trans (hq y).symm

/-- A magnitude is not negative. -/
theorem max_neg_nonneg (x : EReal) : 0 ≤ max x (-x) := by
  rcases le_total 0 x with h | h
  · exact le_max_of_le_left h
  · exact le_max_of_le_right (by rw [EReal.neg_nonneg]; exact h)

theorem mag_nonneg (n : Fin 96) (h w : Fin 512) : 0 ≤ mag X n h w := max_neg_nonneg _

theorem IsPeak.nonneg {p : EReal} (hp : IsPeak X p) : 0 ≤ p :=
  (mag_nonneg X 0 0 0).trans ((hp p).mp le_rfl 0 0 0)

/-- A finite largest magnitude makes every difference real. -/
theorem IsPeak.diff_real {p : ℝ} (hp : IsPeak X (p : EReal)) (n : Fin 96) (h w : Fin 512) : ∃ d : ℝ, diff X n h w = (d : EReal) := by
  have hm := (hp _).mp le_rfl n h w
  have h1 : diff X n h w ≠ ⊤ := fun e => by
    have := (le_max_left _ _).trans hm; rw [e] at this; exact absurd this (by simp)
  have h2 : diff X n h w ≠ ⊥ := fun e => by
    have := (le_max_right _ _).trans hm; rw [e] at this; exact absurd this (by simp)
  exact ⟨_, (EReal.coe_toReal h1 h2).symm⟩

/-- The step at a positive real largest magnitude. -/
def step (p : ℝ) : ℝ := (2 : ℝ) ^ (rnd (Real.log (p / 128) / Real.log 2) + 1)

theorem step_pos (p : ℝ) : 0 < step p := Real.rpow_pos_of_pos (by norm_num) _

/-- The rounded quotients of one tile, row `b` and column `a` of the 32 × 32 tiles. -/
def tile (L : ℝ) (b a : Fin 32) : Tile := fun n r c => rnd ((diff X n (col b r) (col a c)).toReal / L)

/-- Every tile's determinant is not zero. -/
def Good (L : ℝ) : Prop := ∀ b a, gdet (tile X L b a) ≠ 0

/-- What both programs compute: each tile fitted, and the left neighbour added back. -/
def value (L : ℝ) (n : Fin 96) (h w : Fin 512) : EReal :=
  (fitted (tile X L ⟨h.val / 16, by omega⟩ ⟨w.val / 16, by omega⟩) L n ⟨h.val % 16, by omega⟩ ⟨w.val % 16, by omega⟩ : EReal)
    + left X n h w

theorem value_col (L : ℝ) (n : Fin 96) (b a : Fin 32) (r c : Fin 16) : value X L n (col b r) (col a c)
    = (fitted (tile X L b a) L n r c : EReal) + left X n (col b r) (col a c) := by
  have h1 (b : Fin 32) (r : Fin 16) (h : (col b r).val / 16 < 32) : (⟨(col b r).val / 16, h⟩ : Fin 32) = b :=
    Fin.ext (show (16 * b.val + r.val) / 16 = b.val by omega)
  have h2 (b : Fin 32) (r : Fin 16) (h : (col b r).val % 16 < 16) : (⟨(col b r).val % 16, h⟩ : Fin 16) = r :=
    Fin.ext (show (16 * b.val + r.val) % 16 = r.val by omega)
  unfold value
  rw [h1, h1, h2, h2]

end Cert.Val
-- ==== Proof.BlockValue.lean ====
module

public import proofs.«01_k».proof.Proof.StripValue
public import proofs.«01_k».proof.Proof.Input
public import proofs.«01_k».proof.Proof.RunIdeal

/-! # A grid point's pieces, read at an index -/

@[expose] public section

set_option maxRecDepth 16384

noncomputable section

namespace Cert.KernelIdeal.Strip

open Cert.KernelIdeal Cert.KernelIdeal.Gen Cert.KernelIdeal.Body Cert.Val
open Idealize.ShloMosaic Idealize.ShloMosaic.TcCoe Idealize.ShloMosaic.ValueIdx Idealize.ShloMosaic.Tactic

/-- The block's left neighbours: zero in the first column, else the number one column before. -/
theorem pay4_apply (x : Vec Ideal S96x32x512 .f32) (n : Fin 96) (r : Fin 32) (w : Fin 512) :
    k0_pay4 x (ix3 n r w) = if w.val = 0 then 0 else x (ix3 n r ⟨w.val - 1, by omega⟩) := by
  unfold k0_pay4 k0_pay3
  simp only [shapeCast_self]
  show Scalar.select (cmpi .eq (iota .tc S96x32x512 32 [2] iota_S96x32x512_d2_w32) (broadcast S96x32x512 0#32) (ix3 n r w)) _ _ = _
  have hi : iota .tc S96x32x512 32 [2] iota_S96x32x512_d2_w32 (ix3 n r w) = BitVec.ofNat 32 w.val := by
    show BitVec.ofNat 32 (0 * 512 + w.val) = _
    rw [Nat.zero_mul, Nat.zero_add]
  have hc : cmpi .eq (iota .tc S96x32x512 32 [2] iota_S96x32x512_d2_w32) (broadcast S96x32x512 0#32) (ix3 n r w)
      = if w.val = 0 then 1#1 else 0#1 := by
    show IntOp.cmpi .eq (iota .tc S96x32x512 32 [2] iota_S96x32x512_d2_w32 (ix3 n r w)) 0#32 = _
    rw [hi]
    have hw := w.isLt
    by_cases h : w.val = 0
    · rw [if_pos h, h]; rfl
    · rw [if_neg h]
      have : ¬ (BitVec.ofNat 32 w.val = 0#32) := fun e => by
        have := congrArg BitVec.toNat e
        simp at this; omega
      show BitVec.ofBool (BitVec.ofNat 32 w.val == 0#32) = 0#1
      rw [beq_eq_false_iff_ne.mpr this]; rfl
  rw [hc]
  by_cases h : w.val = 0
  · rw [if_pos h, if_pos h, select_one]; exact bits_zero.trans EReal.coe_zero
  · rw [if_neg h, if_neg h, select_zero]
    have hw := w.isLt
    refine (concatenate_pair_apply_right (t := S96x32x512) 2 _ _ concatenates_S96x32x1_S96x32x511_S96x32x512_d2 (ix3 n r w) rfl rfl
      (ix3 n r (⟨w.val - 1, by omega⟩ : Fin 511)) (fun b hb => ?_) ?_).trans ?_
    · match b with
      | ⟨0, _⟩ => rfl
      | ⟨1, _⟩ => rfl
      | ⟨2, _⟩ => exact absurd rfl hb
    · show w.val - 1 + 1 = w.val; omega
    · refine (extractStridedSlice_apply (s := S96x32x512) (t := S96x32x511) ![0, 0, 0] (shapeCast S96x32x512 x
        shapeCasts_S96x32x512_S96x32x512) slices_S96x32x512_o0_0_0_S96x32x511
        (ix3 n r (⟨w.val - 1, by omega⟩ : Fin 511)) (ix3 n r ⟨w.val - 1, by omega⟩) (fun d => by
        match d with
        | ⟨0, _⟩ => exact (Nat.zero_add _).symm
        | ⟨1, _⟩ => exact (Nat.zero_add _).symm
        | ⟨2, _⟩ => exact (Nat.zero_add _).symm)).trans ?_
      rw [shapeCast_self]

/-- The largest entry of a block, as the body takes it. -/
def blockMax (v : FVec Ideal S96x32x512 .f32) : EReal :=
  extractAt ![0, 0, 0, 0] (shapeCast S1x1x1x1 (multiReduction .maximumf [1, 2, 3] S1 (shapeCast S1x96x32x512 v
    shapeCasts_S96x32x512_S1x96x32x512) 0xFF800000#32 reduces_S1x96x32x512_S1 (.inl rfl) rfl) shapeCasts_S1_S1x1x1x1) inpos_S1x1x1x1_p0_0_0_0

/-- The running maximum takes in the magnitudes of the block's differences. -/
theorem pay1_eq (i : grid0.Coords) (x : Vec Ideal S96x32x512 .f32) (a : Vec Ideal S8x128 .f32) :
    k0_pay1 i x a = maximumf (Scalar.select (Scalar.cmpi .eq (BitVec.ofNat 32 (i 0).val) 0#32)
      (broadcast S8x128 (Scalar.ofBits .f32 0x00000000#32)) a) (broadcast S8x128 (blockMax (absf (subf x (k0_pay4 x))))) := by
  unfold k0_pay1 k0_pay4 k0_pay3 blockMax
  simp only [shapeCast_self]

theorem idx1_eq (i j : S1.Idx) : i = j := funext fun b => Fin.ext (by
  have h : S1.size b = 1 := by match b with | ⟨0, _⟩ => rfl
  have := (i b).isLt; have := (j b).isLt; omega)

theorem only_four (v : FVec Ideal S1 .f32) (p : EReal) (hv : ∀ j, v j = p) :
    extractAt ![0, 0, 0, 0] (shapeCast S1x1x1x1 v shapeCasts_S1_S1x1x1x1) inpos_S1x1x1x1_p0_0_0_0 = p := hv _

theorem only_three (v : FVec Ideal S1 .f32) (p : EReal) (hv : ∀ j, v j = p) :
    extractAt ![0, 0, 0] (shapeCast S1x1x1 v shapeCasts_S1_S1x1x1) inpos_S1x1x1_p0_0_0 = p := hv _

theorem blockMax_le (v : FVec Ideal S96x32x512 .f32) (y : EReal) : blockMax v ≤ y ↔ ∀ n r w, v (ix3 n r w) ≤ y := by
  unfold blockMax
  generalize hs : shapeCast S1x96x32x512 v shapeCasts_S96x32x512_S1x96x32x512 = s
  have he : ∀ (h : FKind.Formats .f32) (ha : (0xFF800000#32 : BitVec 32) = FKind.maximumf.neutral .f32 h) (j : S1.Idx),
      multiReduction .maximumf [1, 2, 3] S1 s 0xFF800000#32 reduces_S1x96x32x512_S1 h ha j
        = (Finset.univ : Finset S1x96x32x512.Idx).fold max ⊥ s := by
    intro h ha j
    refine (multiReduction_maximumf_eq_fold s _ reduces_S1x96x32x512_S1 h ha j).trans ?_
    rw [Finset.filter_true_of_mem fun i _ => idx1_eq _ _]
    exact congrArg (fun b => (Finset.univ : Finset S1x96x32x512.Idx).fold max b s) bits_bot
  refine (iff_of_eq (congrArg (· ≤ y) (only_four _ _ (he _ _)))).trans ?_
  rw [Finset.fold_max_le]
  subst hs
  constructor
  · rintro ⟨_, h⟩ n r w
    have := h (ix4 0 n r w) (Finset.mem_univ _)
    rwa [shapeCast_apply v shapeCasts_S96x32x512_S1x96x32x512 (ix4 0 n r w) (ix3 n r w) (by
      rw [Shape.rowMajor_val_three, Shape.rowMajor_val_four]
      show (n.val * 32 + r.val) * 512 + w.val = ((0 * 96 + n.val) * 32 + r.val) * 512 + w.val; omega)] at this
  · intro h
    refine ⟨bot_le, fun i _ => ?_⟩
    obtain ⟨z, n, r, w, rfl⟩ : ∃ z n r w, i = ix4 z n r w := ⟨_, _, _, _, eq_ix4 i⟩
    rw [shapeCast_apply v shapeCasts_S96x32x512_S1x96x32x512 (ix4 z n r w) (ix3 n r w) (by
      rw [Shape.rowMajor_val_three, Shape.rowMajor_val_four]
      show (n.val * 32 + r.val) * 512 + w.val = ((z.val * 96 + n.val) * 32 + r.val) * 512 + w.val
      have := z.isLt; omega)]
    exact h n r w

/-- The largest entry of the scratch. -/
def scratchMax (a : Vec Ideal S8x128 .f32) : EReal :=
  extractAt ![0, 0, 0] (shapeCast S1x1x1 (multiReduction (F := Ideal) (φ := .f32) .maximumf [1, 2] S1 (shapeCast S1x8x128 a
    shapeCasts_S8x128_S1x8x128) 0xFF800000#32 reduces_S1x8x128_S1 (.inl rfl) rfl) shapeCasts_S1_S1x1x1) inpos_S1x1x1_p0_0_0

/-- The step as the body computes it from the largest magnitude. -/
def bodyStep (p : EReal) : EReal :=
  Scalar.exp2 (F := Ideal) (φ := .f32) (Scalar.addf (Scalar.roundeven (Scalar.mulf (Scalar.log (Scalar.divf p (Scalar.ofBits .f32 0x43000000#32)))
    (Named.named κ "inv_ln2" 0x3FB8AA3B#32))) (Scalar.ofBits .f32 0x3F800000#32))

theorem pay2_eq (a : Vec Ideal S8x128 .f32) : k0_pay2 a = bodyStep (scratchMax a) := by sl_kernel_rfl

theorem bodyStep_eq (p : EReal) : bodyStep p = Ideal.exp2 (Ideal.liftRound Ideal.roundHalfEven (Ideal.log (Ideal.div p ((128 : ℝ) : EReal))
      * (((Real.log 2)⁻¹ : ℝ) : EReal)) + ((1 : ℝ) : EReal)) := by
  rw [← bits_128, ← bits_one]; rfl

theorem scratchMax_const (a : Vec Ideal S8x128 .f32) (p : EReal) (ha : ∀ i, a i = p) : scratchMax a = p := by
  have hv : shapeCast S1x8x128 a shapeCasts_S8x128_S1x8x128 = fun _ => p := funext fun i => ha _
  have he : ∀ (h : FKind.Formats .f32) (hn : (0xFF800000#32 : BitVec 32) = FKind.maximumf.neutral .f32 h) (j : S1.Idx),
      multiReduction (F := Ideal) (φ := .f32) .maximumf [1, 2] S1 (shapeCast S1x8x128 a shapeCasts_S8x128_S1x8x128) 0xFF800000#32 reduces_S1x8x128_S1 h hn j
        = p := by
    intro h hn j
    rw [hv]
    refine (multiReduction_maximumf_eq_fold _ _ reduces_S1x8x128_S1 h hn j).trans ?_
    rw [Finset.filter_true_of_mem fun i _ => idx1_eq _ _]
    refine (congrArg (fun b => (Finset.univ : Finset S1x8x128.Idx).fold max b (fun _ => p)) bits_bot).trans ?_
    refine eq_of_forall_ge_iff fun y => ?_
    rw [Finset.fold_max_le]
    exact ⟨fun h => h.2 (ix3 0 0 0) (Finset.mem_univ _), fun h => ⟨bot_le, fun _ _ => h⟩⟩
  exact only_three _ _ (he (.inl rfl) rfl)

/-- The step the body takes from the scratch, where all its entries are `p`. -/
theorem pay2_const (a : Vec Ideal S8x128 .f32) (p : EReal) (ha : ∀ i, a i = p) :
    k0_pay2 a = Ideal.exp2 (Ideal.liftRound Ideal.roundHalfEven (Ideal.log (Ideal.div p ((128 : ℝ) : EReal))
      * (((Real.log 2)⁻¹ : ℝ) : EReal)) + ((1 : ℝ) : EReal)) := by
  rw [pay2_eq, scratchMax_const a p ha, bodyStep_eq]

/-- At a positive real magnitude the step is a positive real. -/
theorem pay2_real (a : Vec Ideal S8x128 .f32) (p : ℝ) (hp : 0 < p) (ha : ∀ i, a i = (p : EReal)) :
    k0_pay2 a = (step p : EReal) := by
  rw [pay2_const a _ ha, div_real _ _ (by norm_num), Ideal.log_coe, if_neg (not_le.mpr (by positivity)), ← EReal.coe_mul, ← div_eq_mul_inv,
    Ideal.liftRound_coe]
  rfl

end Cert.KernelIdeal.Strip
-- ==== Proof.Blocks.lean ====
module

public import proofs.«01_k».proof.Proof.BlockValue
public import Idealize.ShloMosaic.Lib.Claim
public import Idealize.ShloMosaic.Lib.StableHlo.RunRead
public import Idealize.ShloMosaic.Lib.Pipeline.ValueKit

/-! # What the pipeline's blocks hold -/

@[expose] public section

set_option maxRecDepth 16384

noncomputable section

namespace Cert.KernelIdeal.Blocks

open Cert.KernelIdeal Cert.KernelIdeal.Gen Cert.KernelIdeal.Body Cert.KernelIdeal.Strip Cert.Val
open Idealize.ShloMosaic hiding ix1 ix2 ix3 ix4 ix5
open Idealize.ShloMosaic.TcCoe Idealize.ShloMosaic.ValueIdx Idealize.ShloMosaic.Tactic

variable (m : (ℓ : Loc nD τ sig) → Buf (Elt Ideal) ℓ)

/-- The argument on core `c`. -/
abbrev argAt (c : Dev nD) : Arr := m ((c.tc : Thread nD τ).loc main_arg0)

/-- The images are the argument without its unit axis. -/
theorem images_apply (c : Dev nD) (n : Fin 96) (h w : Fin 512) : V m c main_v0 (ix3 n h w) = argAt m c (ix4 0 n h w) := by
  entry_read
  exact shapeCast_apply (s := S1x96x512x512) (t := S96x512x512) _ _ _ _ (by
    rw [Shape.rowMajor_val_three, Shape.rowMajor_val_four]
    show ((0 * 96 + n.val) * 512 + h.val) * 512 + w.val = (n.val * 512 + h.val) * 512 + w.val; omega)

/-- Each column's number divided by 16, rounded towards minus infinity, as the host line computes it. -/
def colTile : IVec S512 32 :=
  let n : IVec S512 32 := iotaInDim S512 32 0
  let d : IVec S512 32 := broadcastInDim S512 ![] bcast_S_S512 (constantI S_ 32 16#32)
  let q : IVec S512 32 := Host.divsi n d
  select (andi (cmpi .ne (signi n) (broadcastInDim S512 ![] bcast_S_S512 (signi (constantI S_ 32 16#32))))
      (cmpi .ne (Host.remsi n d) (broadcastInDim S512 ![] bcast_S_S512 (constantI S_ 32 0#32))))
    (subi q (broadcastInDim S512 ![] bcast_S_S512 (constantI S_ 32 1#32))) q

theorem colTile_apply : ∀ w : Fin 512, colTile (ix1 w) = BitVec.ofNat 32 (w.val / 16) := by decide +kernel

/-- The indicator matrix as the host line computes it. -/
def segTerm : FVec Ideal S512x32 .f32 :=
  uitofp .f32 (cmpi .eq
    (broadcastInDim S512x32 ![0, 1] bcast_S512x1_S512x32_0_1 (broadcastInDim S512x1 ![0] bcast_S512_S512x1_0 colTile))
    (broadcastInDim S512x32 ![0, 1] bcast_S1x32_S512x32_0_1 (broadcastInDim S1x32 ![1] bcast_S32_S1x32_1 (iotaInDim S32 32 0))))

theorem seg_eq (c : Dev nD) : V m c main_v9 = segTerm := by
  after_reads_simp
  rfl

theorem segT_eq (c : Dev nD) : V m c main_v10 = transpose S32x512 [1, 0] segTerm transposes_S512x32_S32x512_1_0 := by
  after_reads_simp
  rfl

theorem segTerm_apply : IsSeg segTerm := by
  intro b cc a
  have h : cmpi .eq (broadcastInDim S512x32 ![0, 1] bcast_S512x1_S512x32_0_1 (broadcastInDim S512x1 ![0] bcast_S512_S512x1_0 colTile))
      (broadcastInDim S512x32 ![0, 1] bcast_S1x32_S512x32_0_1 (broadcastInDim S1x32 ![1] bcast_S32_S1x32_1 (iotaInDim S32 32 0)))
      (ix2 (col b cc) a) = if b = a then 1#1 else 0#1 := by
    show IntOp.cmpi .eq (colTile (ix1 (col b cc))) (BitVec.ofNat 32 a.val) = _
    rw [colTile_apply, show (col b cc).val / 16 = b.val by show (16 * b.val + cc.val) / 16 = b.val; omega]
    exact (by decide +kernel : ∀ b a : Fin 32, IntOp.cmpi .eq (BitVec.ofNat 32 b.val) (BitVec.ofNat 32 a.val) = if b = a then 1#1 else 0#1) b a
  refine (congrArg (fun z : BitVec 1 => (((z.toNat : ℕ) : ℝ) : EReal)) h).trans ?_
  by_cases e : b = a
  · rw [if_pos e, if_pos e]; simp
  · rw [if_neg e, if_neg e]; simp

theorem segT_apply : IsSegT (transpose S32x512 [1, 0] segTerm transposes_S512x32_S32x512_1_0) := by
  intro a b cc
  refine Eq.trans ?_ (segTerm_apply b cc a)
  rfl

/-- Where the windows' blocks lie. -/
theorem index_0 : ∀ t : Fin cfg0.N, win0_0.index t = ![0, 0] := (by decide +kernel : ∀ t : Fin grid0.N, win0_0.index t = ![0, 0])
theorem index_1 : ∀ t : Fin cfg0.N, win0_1.index t = ![0, 0] := (by decide +kernel : ∀ t : Fin grid0.N, win0_1.index t = ![0, 0])
theorem index_2 : ∀ t : Fin cfg0.N, win0_2.index t = ![0, t.val % 16, 0] :=
  (by decide +kernel : ∀ t : Fin grid0.N, win0_2.index t = ![0, t.val % 16, 0])
theorem index_3 : ∀ t : Fin cfg0.N, win0_3.index t = ![0, t.val - 16, 0] :=
  (by decide +kernel : ∀ t : Fin grid0.N, win0_3.index t = ![0, t.val - 16, 0])

theorem block_seg (c : Dev nD) (t : Fin cfg0.N) : iblk m c 0 t = segTerm := by
  funext y
  blk_simp [iblk]
  refine Eq.trans (congrFun (seg_eq m c) _) (congrArg segTerm ?_)
  blk_ext [index_0]

theorem block_segT (c : Dev nD) (t : Fin cfg0.N) : iblk m c 1 t = transpose S32x512 [1, 0] segTerm transposes_S512x32_S32x512_1_0 := by
  funext y
  blk_simp [iblk]
  refine Eq.trans (congrFun (segT_eq m c) _) (congrArg (transpose S32x512 [1, 0] segTerm transposes_S512x32_S32x512_1_0) ?_)
  blk_ext [index_1]

/-- Row `r` of point `t`'s block. -/
def rowAt (t : Fin cfg0.N) (r : Fin 32) : Fin 512 := ⟨t.val % 16 * 32 + r.val, by omega⟩

theorem block_x (c : Dev nD) (t : Fin cfg0.N) (n : Fin 96) (r : Fin 32) (w : Fin 512) :
    iblk m c 2 t (ix3 n r w) = argAt m c (ix4 0 n (rowAt t r) w) := by
  blk_simp [iblk]
  refine Eq.trans (congrArg (V m c main_v0) ?_) (images_apply m c n (rowAt t r) w)
  blk_ext [index_2, rowAt]

end Cert.KernelIdeal.Blocks
-- ==== Proof.KernelValue.lean ====
module

public import proofs.«01_k».proof.Proof.Blocks

/-! # The value the kernel's result array holds -/

@[expose] public section

set_option maxRecDepth 16384

noncomputable section

namespace Cert.KernelIdeal.Blocks

open Cert.KernelIdeal Cert.KernelIdeal.Gen Cert.KernelIdeal.Body Cert.KernelIdeal.Strip Cert.Val
open Idealize.ShloMosaic hiding ix1 ix2 ix3 ix4 ix5
open Idealize.ShloMosaic.TcCoe Idealize.ShloMosaic.ValueIdx Idealize.ShloMosaic.Tactic
open Idealize.SL Idealize.SL.Sem

variable (m : (ℓ : Loc nD τ sig) → Buf (Elt Ideal) ℓ)

/-- The block's left neighbours are the images'. -/
theorem left_block (c : Dev nD) (t : Fin cfg0.N) (n : Fin 96) (r : Fin 32) (w : Fin 512) :
    k0_pay4 (iblk m c 2 t) (ix3 n r w) = left (argAt m c) n (rowAt t r) w := by
  refine (pay4_apply _ n r w).trans ?_
  unfold left
  split
  · rfl
  · exact block_x m c t n r _

/-- The block's differences are the images'. -/
theorem diff_block (c : Dev nD) (t : Fin cfg0.N) (n : Fin 96) (r : Fin 32) (w : Fin 512) :
    subf (φ := .f32) (iblk m c 2 t) (k0_pay4 (iblk m c 2 t)) (ix3 n r w) = diff (argAt m c) n (rowAt t r) w := by
  refine (subf_apply _ _ _).trans ?_
  rw [left_block, block_x]; rfl

theorem mag_block (c : Dev nD) (t : Fin cfg0.N) (n : Fin 96) (r : Fin 32) (w : Fin 512) :
    absf (φ := .f32) (subf (φ := .f32) (iblk m c 2 t) (k0_pay4 (iblk m c 2 t))) (ix3 n r w) = mag (argAt m c) n (rowAt t r) w := by
  refine (show _ = max (subf (φ := .f32) (iblk m c 2 t) (k0_pay4 (iblk m c 2 t)) (ix3 n r w))
    (-(subf (φ := .f32) (iblk m c 2 t) (k0_pay4 (iblk m c 2 t)) (ix3 n r w))) from rfl).trans ?_
  rw [diff_block]; rfl

theorem first_point : ∀ t : Fin cfg0.N, Scalar.cmpi .eq (BitVec.ofNat 32 ((grid0.coords t) 0).val) 0#32 = if t.val = 0 then 1#1 else 0#1 :=
  (by decide +kernel : ∀ t : Fin grid0.N, Scalar.cmpi .eq (BitVec.ofNat 32 ((grid0.coords t) 0).val) 0#32 = if t.val = 0 then 1#1 else 0#1)

theorem joined (u : FVec Ideal S8x128 .f32) (v : EReal) (i : S8x128.Idx) : maximumf u (broadcast S8x128 v) i = max (u i) v := rfl

/-- A point's update of the running maximum. -/
theorem update_le (c : Dev nD) (t : Fin cfg0.N) (a : Vec Ideal S8x128 .f32) (i : S8x128.Idx) (y : EReal) :
    k0_pay1 (grid0.coords t) (iblk m c 2 t) a i ≤ y
      ↔ (if t.val = 0 then 0 else a i) ≤ y ∧ ∀ n r w, mag (argAt m c) n (rowAt t r) w ≤ y := by
  rw [pay1_eq, first_point, joined, max_le_iff, blockMax_le]
  refine and_congr (iff_of_eq (congrArg (· ≤ y) ?_)) (forall_congr' fun n => forall_congr' fun r => forall_congr' fun w =>
    iff_of_eq (congrArg (· ≤ y) (mag_block m c t n r w)))
  by_cases h : t.val = 0
  · rw [if_pos h, if_pos h]; exact bits_zero.trans EReal.coe_zero
  · rw [if_neg h, if_neg h]; rfl

/-- The scratch after an early point bounds the magnitudes of the blocks so far, and no more. -/
theorem maxAt_le (c : Dev nD) (k : ℕ) (hk : k < cfg0.N) (h16 : k < 16) (i : S8x128.Idx) (y : EReal) :
    maxAt m c k hk i ≤ y ↔ 0 ≤ y ∧ ∀ t : Fin cfg0.N, t.val ≤ k → ∀ n r w, mag (argAt m c) n (rowAt t r) w ≤ y := by
  induction k with
  | zero =>
    show k0_pay1 (grid0.coords ⟨0, hk⟩) (iblk m c 2 ⟨0, hk⟩) _ i ≤ y ↔ _
    rw [update_le, if_pos rfl]
    refine and_congr Iff.rfl ⟨fun h t ht => ?_, fun h => h ⟨0, hk⟩ le_rfl⟩
    obtain rfl : t = ⟨0, hk⟩ := Fin.ext (Nat.le_zero.mp ht)
    exact h
  | succ k ih =>
    have e : maxAt m c (k + 1) hk = k0_pay1 (grid0.coords ⟨k + 1, hk⟩) (iblk m c 2 ⟨k + 1, hk⟩) (maxAt m c k (Nat.lt_of_succ_lt hk)) := if_pos h16
    rw [e, update_le, if_neg (Nat.succ_ne_zero k), ih _ (by omega)]
    constructor
    · rintro ⟨⟨h0, h1⟩, h2⟩
      refine ⟨h0, fun t ht => ?_⟩
      rcases Nat.lt_or_ge t.val (k + 1) with h | h
      · exact h1 t (by omega)
      · obtain rfl : t = ⟨k + 1, hk⟩ := Fin.ext (le_antisymm ht h)
        exact h2
    · rintro ⟨h0, h1⟩
      exact ⟨⟨h0, fun t ht => h1 t (by omega)⟩, h1 ⟨k + 1, hk⟩ le_rfl⟩

/-- From the sixteenth point on the scratch holds the largest magnitude in every entry. -/
theorem maxAt_peak (c : Dev nD) (k : ℕ) (hk : k < cfg0.N) (h15 : 15 ≤ k) (i : S8x128.Idx) : IsPeak (argAt m c) (maxAt m c k hk i) := by
  induction k with
  | zero => omega
  | succ k ih =>
    rcases Nat.lt_or_ge (k + 1) 16 with h | h
    · intro y
      obtain rfl : k = 14 := by omega
      rw [maxAt_le m c _ hk h]
      constructor
      · rintro ⟨_, h1⟩ n x w
        have h2 := h1 ⟨x.val / 32, by have : cfg0.N = 32 := N_0; omega⟩ (by show x.val / 32 ≤ 15; omega) n ⟨x.val % 32, by omega⟩ w
        rwa [show rowAt ⟨x.val / 32, _⟩ ⟨x.val % 32, _⟩ = x from Fin.ext (by show x.val / 32 % 16 * 32 + x.val % 32 = x.val; omega)] at h2
      · intro h1
        exact ⟨(mag_nonneg _ 0 0 0).trans (h1 0 0 0), fun t _ n r w => h1 n _ w⟩
    · have e : maxAt m c (k + 1) hk = maxAt m c k (Nat.lt_of_succ_lt hk) := if_neg (by omega)
      rw [e]; exact ih _ (by omega)

/-- The rounded quotients of a block at a positive real largest magnitude. -/
theorem quotient_block (c : Dev nD) (t : Fin cfg0.N) (a : Vec Ideal S8x128 .f32) (p : ℝ) (hp : 0 < p) (hpk : IsPeak (argAt m c) (p : EReal))
    (ha : ∀ i, a i = (p : EReal)) (n : Fin 96) (r : Fin 32) (w : Fin 512) :
    k0_pay5 a (iblk m c 2 t) (ix3 n r w) = (rnd ((diff (argAt m c) n (rowAt t r) w).toReal / step p) : EReal) := by
  have h1 : k0_pay3 (iblk m c 2 t) = iblk m c 2 t := shapeCast_self _ _
  obtain ⟨d, hd⟩ := hpk.diff_real _ n (rowAt t r) w
  unfold k0_pay5
  rw [h1, pay2_real a p hp ha]
  refine (show _ = Ideal.liftRound Ideal.roundHalfEven (subf (φ := .f32) (iblk m c 2 t) (k0_pay4 (iblk m c 2 t)) (ix3 n r w)
    * Ideal.div (Ideal.ofBits .f32 0x3F800000#32) (step p : EReal)) from rfl).trans ?_
  rw [diff_block, hd, bits_one, div_real _ _ (step_pos p).ne', ← EReal.coe_mul, Ideal.liftRound_coe, EReal.toReal_coe]
  unfold rnd
  rw [mul_one_div]

/-- A strip's rows inside its block. -/
theorem slice_apply (k : ℕ) (hk : k + 16 ≤ 32) (v : FVec Ideal S96x32x512 .f32) (h) (n : Fin 96) (r : Fin 16) (w : Fin 512) :
    extractStridedSlice S96x16x512 ![0, k, 0] v h (ix3 n r w) = v (ix3 n (⟨k + r.val, by omega⟩ : Fin 32) w) :=
  extractStridedSlice_apply (s := S96x32x512) (t := S96x16x512) ![0, k, 0] v h _ _ (fun d => by
    match d with
    | ⟨0, _⟩ => exact (Nat.zero_add _).symm
    | ⟨1, _⟩ => rfl
    | ⟨2, _⟩ => exact (Nat.zero_add _).symm)

/-- A strip of a late point's block. -/
theorem strip_value (c : Dev nD) (t : Fin cfg0.N) (a : Vec Ideal S8x128 .f32) (p : ℝ) (hp : 0 < p) (hpk : IsPeak (argAt m c) (p : EReal))
    (ha : ∀ i, a i = (p : EReal)) (hg : Good (argAt m c) (step p)) (k : ℕ) (s : Fin 2) (hk : k = 16 * s.val) (h h') (n : Fin 96) (r : Fin 16) (w : Fin 512) :
    strip (F := Ideal) (k0_pay2 a) (k0_pay6 (iblk m c 0 t)) (k0_pay7 (iblk m c 1 t))
      (extractStridedSlice S96x16x512 ![0, k, 0] (k0_pay5 a (iblk m c 2 t)) h)
      (extractStridedSlice S96x16x512 ![0, k, 0] (k0_pay4 (iblk m c 2 t)) h') (ix3 n r w)
      = value (argAt m c) (step p) n (rowAt t ⟨k + r.val, by omega⟩) w := by
  have hb : t.val % 16 * 2 + s.val < 32 := by omega
  have hrow (r : Fin 16) (hr) : rowAt t ⟨k + r.val, hr⟩ = col ⟨t.val % 16 * 2 + s.val, hb⟩ r :=
    Fin.ext (by show t.val % 16 * 32 + (k + r.val) = 16 * (t.val % 16 * 2 + s.val) + r.val; omega)
  have e6 : k0_pay6 (iblk m c 0 t) = segTerm := (shapeCast_self _ _).trans (block_seg m c t)
  have e7 : k0_pay7 (iblk m c 1 t) = transpose S32x512 [1, 0] segTerm transposes_S512x32_S32x512_1_0 :=
    (shapeCast_self _ _).trans (block_segT m c t)
  obtain ⟨b, cc, rfl⟩ := exists_col w
  rw [e6, e7, pay2_real a p hp ha]
  refine (strip_apply (step p) segTerm_apply segT_apply _ _ (fun b => tile (argAt m c) (step p) ⟨t.val % 16 * 2 + s.val, hb⟩ b)
    (fun n r b cc => ?_) (fun b => hg _ b) n r b cc).trans ?_
  · rw [slice_apply k (by omega), quotient_block m c t a p hp hpk ha, hrow]; rfl
  · rw [slice_apply k (by omega), left_block, hrow, value_col]

/-- The block a late point leaves. -/
theorem out_value (c : Dev nD) (t : Fin cfg0.N) (ht : 16 ≤ t.val) (p : ℝ) (hp : 0 < p) (hpk : IsPeak (argAt m c) (p : EReal))
    (hg : Good (argAt m c) (step p)) (n : Fin 96) (r : Fin 32) (w : Fin 512) :
    outAt m c t (ix3 n r w) = value (argAt m c) (step p) n (rowAt t r) w := by
  have ha (i : S8x128.Idx) : maxAt m c (t.val - 1) (Nat.lt_of_le_of_lt (Nat.sub_le _ _) t.isLt) i = (p : EReal) :=
    (maxAt_peak m c (t.val - 1) _ (by omega) i).unique _ hpk
  unfold outAt outBlk pieces
  generalize maxAt m c (t.val - 1) (Nat.lt_of_le_of_lt (Nat.sub_le _ _) t.isLt) = a at ha
  rcases Nat.lt_or_ge r.val 16 with h | h
  · rw [View.canon_cons_of_not_mem _ _ (by
      rw [Rect.mem_set_unit]
      intro hm
      have := (hm 1).1
      exact absurd (show 16 ≤ r.val from this) (Nat.not_le.mpr h))]
    have e : (ix3 n r w : S96x32x512.Idx) = (Rect.unit (s := S96x32x512) ![0, 0, 0] S96x16x512.size inb_S96x32x512_S96x16x512_0_0_0).emb
        (ix3 n (⟨r.val, h⟩ : Fin 16) w) := by
      funext d; apply Fin.ext
      match d with
      | ⟨0, _⟩ => show n.val = 0 + 1 * n.val; omega
      | ⟨1, _⟩ => show r.val = 0 + 1 * r.val; omega
      | ⟨2, _⟩ => show w.val = 0 + 1 * w.val; omega
    refine (congrArg _ e).trans ((View.canon_cons_emb _ _ _ _).trans ?_)
    rw [strip0_eq]
    refine (strip_value m c t a p hp hpk ha hg 0 0 rfl _ _ n ⟨r.val, h⟩ w).trans ?_
    congr 2; exact Fin.ext (Nat.zero_add _)
  · have e : (ix3 n r w : S96x32x512.Idx) = (Rect.unit (s := S96x32x512) ![0, 16, 0] S96x16x512.size inb_S96x32x512_S96x16x512_0_16_0).emb
        (ix3 n (⟨r.val - 16, by omega⟩ : Fin 16) w) := by
      funext d; apply Fin.ext
      match d with
      | ⟨0, _⟩ => show n.val = 0 + 1 * n.val; omega
      | ⟨1, _⟩ => show r.val = 16 + 1 * (r.val - 16); omega
      | ⟨2, _⟩ => show w.val = 0 + 1 * w.val; omega
    refine (congrArg _ e).trans ((View.canon_cons_emb _ _ _ _).trans ?_)
    rw [strip1_eq]
    refine (strip_value m c t a p hp hpk ha hg 16 1 rfl _ _ n ⟨r.val - 16, by omega⟩ w).trans ?_
    congr 2; exact Fin.ext (by show 16 + (r.val - 16) = r.val; omega)

end Cert.KernelIdeal.Blocks
-- ==== Proof.KernelRun.lean ====
module

public import proofs.«01_k».proof.Proof.KernelValue

/-! # The kernel's run and its result -/

@[expose] public section

set_option maxRecDepth 16384

noncomputable section

namespace Cert.KernelIdeal.Blocks

open Cert.KernelIdeal Cert.KernelIdeal.Gen Cert.KernelIdeal.Body Cert.KernelIdeal.Strip Cert.Val
open Idealize.ShloMosaic hiding ix1 ix2 ix3 ix4 ix5
open Idealize.ShloMosaic.TcCoe Idealize.ShloMosaic.ValueIdx Idealize.ShloMosaic.Tactic
open Idealize.SL Idealize.SL.Sem

variable (m : (ℓ : Loc nD τ sig) → Buf (Elt Ideal) ℓ) (ρ : Dev nD → PrngReg)

/-- The result array: at every index the value named in `Input`. -/
def images (X : Arr) (p : ℝ) : Vec Ideal S96x512x512 .f32 := fun i => value X (step p) (i 0) (i 1) (i 2)

theorem only_late_flush : ∀ t : Fin cfg0.N, (cfg0.win 3).flush t = true → 16 ≤ t.val :=
  (by decide +kernel : ∀ t : Fin grid0.N, win0_3.flush t = true → 16 ≤ t.val)

/-- The pipeline's output array at the end. -/
theorem array_value (c : Dev nD) (p : ℝ) (hp : 0 < p) (hpk : IsPeak (argAt m c) (p : EReal)) (hg : Good (argAt m c) (step p)) :
    (dats m 0 c).arrAt 3 cfg0.N = images (argAt m c) p := by
  refine (dats m 0 c).arrAt_eq_of_covers 3 _ (by decide +kernel) fun t hf y => ?_
  have ht := only_late_flush t hf
  blk_simp
  rw [after_3]
  have hN : cfg0.N = 32 := N_0
  have hlt := t.isLt
  obtain ⟨n, r, w, rfl⟩ : ∃ (n : Fin 96) (r : Fin 32) (w : Fin 512), y = ix3 n r w := ⟨_, _, _, ValueIdx.eq_ix3 y⟩
  refine (out_value m c t ht p hp hpk hg n r w).trans ?_
  refine Eq.trans ?_ (congrArg (images (argAt m c) p) (show ix3 n (rowAt t r) w = ((win0_3.blk t).view.emb (ix3 n r w)) from ?_))
  · rfl
  · blk_ext [index_3, rowAt]
    show t.val % 16 * 32 + r.val = (t.val - 16) * 32 + r.val
    omega

/-- The result: the output array with a unit axis in front. -/
theorem result_value (c : Dev nD) (p : ℝ) (hp : 0 < p) (hpk : IsPeak (argAt m c) (p : EReal)) (hg : Good (argAt m c) (step p)) :
    Pipeline.afterTail₀ cfgs (dats m) 0 (V0 m) [hostOps1] c main_v12
      = (fun i => value (argAt m c) (step p) (i 1) (i 2) (i 3) : Vec Ideal S1x96x512x512 .f32) := by
  unfold Pipeline.afterTail₀
  have e : Pipeline.withArrays spec0 c (V0 m c) (fun w => (dats m 0 c).arrAt w cfg0.N) (Proc.devRef .tc main_v11)
      = images (argAt m c) p :=
    (Pipeline.withArrays_arr spec0 (by decide) c (V0 m c) (fun w => (dats m 0 c).arrAt w cfg0.N) 3).trans
      (array_value m c p hp hpk hg)
  after_reads_simp
  refine (congrArg _ e).trans ?_
  funext i
  exact broadcastInDim_apply (t := S1x96x512x512) (s := S96x512x512) _ _ _ i (ix3 (i 1) (i 2) (i 3)) (fun d => by
    match d with
    | ⟨0, _⟩ => rfl
    | ⟨1, _⟩ => rfl
    | ⟨2, _⟩ => rfl)

/-- Every execution of the idealized kernel ends with the value named in `Input` as its result and its argument unchanged. -/
theorem kernel_run (p : Dev nD → ℝ) (hp : ∀ c, 0 < p c) (hpk : ∀ c, IsPeak (argAt m c) (p c : EReal)) (hg : ∀ c, Good (argAt m c) (step (p c))) :
    θ_run (defs (F := Ideal)) (onTc (τ := τ) (main (F := Ideal))) ⟨m, fun _ => 0, ρ⟩ (fun r => ∀ c : Dev nD,
      r.2.mem ((c.tc : Thread nD τ).loc main_v12)
        = (fun i => value (argAt m c) (step (p c)) (i 1) (i 2) (i 3) : Vec Ideal S1x96x512x512 .f32)
      ∧ r.2.mem ((c.tc : Thread nD τ).loc main_arg0) = m ((c.tc : Thread nD τ).loc main_arg0)) := by
  refine (θ_run defs _ _).mono (fun r h c => ⟨?_, ?_⟩) (run m ρ)
  · exact ((h.1 c).2 main_v12 (Pipeline.mem_restRefs_of main_v12 (by decide) (by decide))).trans
      (result_value m c (p c) (hp c) (hpk c) (hg c))
  · exact ((h.1 c).2 main_arg0 (Pipeline.mem_restRefs_of main_arg0 (by decide) (by decide))).trans (W_main_arg0 m (dats m) c)

end Cert.KernelIdeal.Blocks
-- ==== Proof.Cofactors.lean ====
module

public import proofs.«01_k».proof.Proof.Gen.ReferenceIdeal.Read
public import proofs.«01_k».proof.Proof.Spec

/-! # The reference's 3 × 3 matrices

The reference holds one 3 × 3 matrix per tile. It forms the cofactors by rotating the rows and the columns cyclically,
and the determinant by expanding the first row. Here each of these is a function of the array of matrices, with its
entries on real matrices. -/

@[expose] public section

noncomputable section

namespace Cert.Ref

open Cert.ReferenceIdeal Cert.ReferenceIdeal.Gen Idealize.ShloMosaic Idealize.ShloMosaic.ValueIdx Cert.Val

/-- One 3 × 3 matrix for each tile. -/
abbrev Mats := FVec Ideal S32x32x3x3 .f32

/-- The rows moved up by one, the first becoming the last. -/
def down (m : Mats) : Mats :=
  concatenate S32x32x3x3 2 [⟨S32x32x2x3, extractStridedSlice S32x32x2x3 ![0, 0, 1, 0] m slices_S32x32x3x3_S32x32x2x3_0_0_1_0⟩,
    ⟨S32x32x1x3, extractStridedSlice S32x32x1x3 ![0, 0, 0, 0] m slices_S32x32x3x3_S32x32x1x3_0_0_0_0⟩]
    concatenates_S32x32x2x3_S32x32x1x3_S32x32x3x3_d2

/-- The columns moved left by one, the first becoming the last. -/
def over (m : Mats) : Mats :=
  concatenate S32x32x3x3 3 [⟨S32x32x3x2, extractStridedSlice S32x32x3x2 ![0, 0, 0, 1] m slices_S32x32x3x3_S32x32x3x2_0_0_0_1⟩,
    ⟨S32x32x3x1, extractStridedSlice S32x32x3x1 ![0, 0, 0, 0] m slices_S32x32x3x3_S32x32x3x1_0_0_0_0⟩]
    concatenates_S32x32x3x2_S32x32x3x1_S32x32x3x3_d3

/-- The cofactors. -/
def cof (m : Mats) : Mats :=
  subf (mulf (over (down m)) (over (down (over (down m))))) (mulf (over (over (down m))) (down (over (down m))))

/-- The determinants, from the matrices and their cofactors. -/
def det (m c : Mats) : FVec Ideal S32x32 .f32 :=
  shapeCast S32x32 (extractStridedSlice S32x32x1 ![0, 0, 0]
    (Host.reduceAdd (mulf m c) (constant S_ .f32 0x00000000#32) reducesTo_S32x32x3x3_S32x32x3_d3 h_S_)
    slices_S32x32x3_S32x32x1_0_0_0) shapeCasts_S32x32x1_S32x32

/-- `down` read at an entry. -/
theorem down_apply (m : Mats) (a b : Fin 32) (i j : Fin 3) : down m (ix4 a b i j) = m (ix4 a b (i + 1) j) := by
  unfold down
  have top : ∀ (i : Fin 2) (k : Fin 3), k.val = i.val + 1 → ∀ i' : Fin 3, i'.val = i.val →
      concatenate S32x32x3x3 2 [⟨S32x32x2x3, extractStridedSlice S32x32x2x3 ![0, 0, 1, 0] m slices_S32x32x3x3_S32x32x2x3_0_0_1_0⟩,
        ⟨S32x32x1x3, extractStridedSlice S32x32x1x3 ![0, 0, 0, 0] m slices_S32x32x3x3_S32x32x1x3_0_0_0_0⟩]
        concatenates_S32x32x2x3_S32x32x1x3_S32x32x3x3_d2 (ix4 a b i' j) = m (ix4 a b k j) := by
    intro i k hk i' hi'
    refine (concatenate_pair_apply_left (t := S32x32x3x3) (s₁ := S32x32x2x3) (s₂ := S32x32x1x3) 2 _ _ _ (ix4 a b i' j) rfl (ix4 a b i j) (fun d => by
      match d with
      | ⟨0, _⟩ => rfl
      | ⟨1, _⟩ => rfl
      | ⟨2, _⟩ => exact hi'.symm
      | ⟨3, _⟩ => rfl)).trans ?_
    exact extractStridedSlice_apply (s := S32x32x3x3) (t := S32x32x2x3) ![0, 0, 1, 0] m _ (ix4 a b i j) (ix4 a b k j) (fun d => by
      match d with
      | ⟨0, _⟩ => exact (Nat.zero_add _).symm
      | ⟨1, _⟩ => exact (Nat.zero_add _).symm
      | ⟨2, _⟩ => exact hk.trans (Nat.add_comm _ _)
      | ⟨3, _⟩ => exact (Nat.zero_add _).symm)
  match i with
  | 0 => exact top 0 1 rfl 0 rfl
  | 1 => exact top 1 2 rfl 1 rfl
  | 2 =>
    refine (concatenate_pair_apply_right (t := S32x32x3x3) (s₁ := S32x32x2x3) (s₂ := S32x32x1x3) 2 _ _ _ (ix4 a b (2 : Fin 3) j) rfl rfl (ix4 a b (0 : Fin 1) j) (fun d hd => by
      match d with
      | ⟨0, _⟩ => rfl
      | ⟨1, _⟩ => rfl
      | ⟨2, _⟩ => exact absurd rfl hd
      | ⟨3, _⟩ => rfl) rfl).trans ?_
    exact extractStridedSlice_apply (s := S32x32x3x3) (t := S32x32x1x3) ![0, 0, 0, 0] m _ (ix4 a b (0 : Fin 1) j) (ix4 a b (0 : Fin 3) j) (fun d => by
      match d with
      | ⟨0, _⟩ => exact (Nat.zero_add _).symm
      | ⟨1, _⟩ => exact (Nat.zero_add _).symm
      | ⟨2, _⟩ => rfl
      | ⟨3, _⟩ => exact (Nat.zero_add _).symm)

/-- `over` read at an entry. -/
theorem over_apply (m : Mats) (a b : Fin 32) (i j : Fin 3) : over m (ix4 a b i j) = m (ix4 a b i (j + 1)) := by
  unfold over
  have top : ∀ (j : Fin 2) (k : Fin 3), k.val = j.val + 1 → ∀ j' : Fin 3, j'.val = j.val →
      concatenate S32x32x3x3 3 [⟨S32x32x3x2, extractStridedSlice S32x32x3x2 ![0, 0, 0, 1] m slices_S32x32x3x3_S32x32x3x2_0_0_0_1⟩,
        ⟨S32x32x3x1, extractStridedSlice S32x32x3x1 ![0, 0, 0, 0] m slices_S32x32x3x3_S32x32x3x1_0_0_0_0⟩]
        concatenates_S32x32x3x2_S32x32x3x1_S32x32x3x3_d3 (ix4 a b i j') = m (ix4 a b i k) := by
    intro j k hk j' hj'
    refine (concatenate_pair_apply_left (t := S32x32x3x3) (s₁ := S32x32x3x2) (s₂ := S32x32x3x1) 3 _ _ _ (ix4 a b i j') rfl (ix4 a b i j) (fun d => by
      match d with
      | ⟨0, _⟩ => rfl
      | ⟨1, _⟩ => rfl
      | ⟨2, _⟩ => rfl
      | ⟨3, _⟩ => exact hj'.symm)).trans ?_
    exact extractStridedSlice_apply (s := S32x32x3x3) (t := S32x32x3x2) ![0, 0, 0, 1] m _ (ix4 a b i j) (ix4 a b i k) (fun d => by
      match d with
      | ⟨0, _⟩ => exact (Nat.zero_add _).symm
      | ⟨1, _⟩ => exact (Nat.zero_add _).symm
      | ⟨2, _⟩ => exact (Nat.zero_add _).symm
      | ⟨3, _⟩ => exact hk.trans (Nat.add_comm _ _))
  match j with
  | 0 => exact top 0 1 rfl 0 rfl
  | 1 => exact top 1 2 rfl 1 rfl
  | 2 =>
    refine (concatenate_pair_apply_right (t := S32x32x3x3) (s₁ := S32x32x3x2) (s₂ := S32x32x3x1) 3 _ _ _ (ix4 a b i (2 : Fin 3)) rfl rfl (ix4 a b i (0 : Fin 1)) (fun d hd => by
      match d with
      | ⟨0, _⟩ => rfl
      | ⟨1, _⟩ => rfl
      | ⟨2, _⟩ => rfl
      | ⟨3, _⟩ => exact absurd rfl hd) rfl).trans ?_
    exact extractStridedSlice_apply (s := S32x32x3x3) (t := S32x32x3x1) ![0, 0, 0, 0] m _ (ix4 a b i (0 : Fin 1)) (ix4 a b i (0 : Fin 3)) (fun d => by
      match d with
      | ⟨0, _⟩ => exact (Nat.zero_add _).symm
      | ⟨1, _⟩ => exact (Nat.zero_add _).symm
      | ⟨2, _⟩ => exact (Nat.zero_add _).symm
      | ⟨3, _⟩ => rfl)

/-- The cofactors of a real matrix. -/
def rcof (M : Fin 3 → Fin 3 → ℝ) (i j : Fin 3) : ℝ :=
  M (i + 1) (j + 1) * M (i + 1 + 1) (j + 1 + 1) - M (i + 1) (j + 1 + 1) * M (i + 1 + 1) (j + 1)

/-- The determinant of a real matrix, by its first row. -/
def rdet (M : Fin 3 → Fin 3 → ℝ) : ℝ := ∑ j, M 0 j * rcof M 0 j

/-- The cofactors where the matrix is real. -/
theorem cof_apply (m : Mats) (a b : Fin 32) (M : Fin 3 → Fin 3 → ℝ) (h : ∀ i j, m (ix4 a b i j) = (M i j : EReal)) (i j : Fin 3) :
    cof m (ix4 a b i j) = (rcof M i j : EReal) := by
  show over (down m) (ix4 a b i j) * over (down (over (down m))) (ix4 a b i j)
    - over (over (down m)) (ix4 a b i j) * down (over (down m)) (ix4 a b i j) = _
  simp only [over_apply, down_apply, h]
  unfold rcof
  push_cast
  rfl

/-- The determinant read at a tile. -/
theorem det_sum (m c : Mats) (a b : Fin 32) :
    det m c (ix2 a b) = ∑ j : Fin 3, m (ix4 a b 0 j) * c (ix4 a b 0 j) := by
  unfold det
  refine (shapeCast_apply (s := S32x32x1) (t := S32x32) _ shapeCasts_S32x32x1_S32x32 (ix2 a b) (ix3 a b (0 : Fin 1)) (by
    rw [Shape.rowMajor_val_three, Shape.rowMajor_val_two]; show (a.val * 32 + b.val) * 1 + 0 = a.val * 32 + b.val; omega)).trans ?_
  refine (extractStridedSlice_apply (s := S32x32x3) (t := S32x32x1) ![0, 0, 0] _ slices_S32x32x3_S32x32x1_0_0_0
    (ix3 a b (0 : Fin 1)) (ix3 a b (0 : Fin 3)) (fun d => by
      match d with
      | ⟨0, _⟩ => exact (Nat.zero_add _).symm
      | ⟨1, _⟩ => exact (Nat.zero_add _).symm
      | ⟨2, _⟩ => rfl)).trans ?_
  simp only [Host.reduceAdd, Ideal.hostReduceAdd_def]
  refine (Ideal.hostReduceAdd_single reducesTo_S32x32x3x3_S32x32x3_d3 (by decide) _ _ _).trans ?_
  have hz : constant (F := Ideal) S_ .f32 0x00000000#32 (Shape.Idx.first h_S_) = 0 := bits_zero.trans EReal.coe_zero
  rw [hz, zero_add]
  refine Finset.sum_congr rfl fun k _ => ?_
  have e : ∀ p : S32x32x3x3.Reduces [3] S32x32x3, p.lift (ix3 a b (0 : Fin 3)) k = ix4 a b (0 : Fin 3) (k : Fin 3) := fun p =>
    funext fun d => Fin.ext (by match d with | ⟨0, _⟩ => rfl | ⟨1, _⟩ => rfl | ⟨2, _⟩ => rfl | ⟨3, _⟩ => rfl)
  exact congrArg (mulf m c) (e _)

/-- The determinant where the matrix is real. -/
theorem det_apply (m : Mats) (a b : Fin 32) (M : Fin 3 → Fin 3 → ℝ) (h : ∀ i j, m (ix4 a b i j) = (M i j : EReal)) :
    det m (cof m) (ix2 a b) = (rdet M : EReal) := by
  rw [det_sum]
  simp only [h, cof_apply m a b M h]
  unfold rdet
  simp only [Fin.sum_univ_three]
  push_cast
  rfl

end Cert.Ref

end
-- ==== Proof.RealFit.lean ====
module

public import proofs.«01_k».proof.Proof.Cofactors
public import proofs.«01_k».proof.Proof.Input

/-! # One tile of the reference in real numbers

A tile of the reference is 96 rows of 256 numbers. The basis is its first two rows and a row of ones. The Gram matrix
of the basis is inverted by cofactors and every row is projected on the basis. Where the rows are a tile of the
specification times the step, the projection is the specification's fit times the step. -/

@[expose] public section

noncomputable section

namespace Cert.Ref

open Cert.Val

/-- Column `c` of row `r` of a tile, as a place among its 256. -/
def pix (r c : Fin 16) : Fin 256 := ⟨16 * r.val + c.val, by omega⟩

theorem exists_pix (q : Fin 256) : ∃ r c, q = pix r c :=
  ⟨⟨q.val / 16, by omega⟩, ⟨q.val % 16, by omega⟩, Fin.ext (by show q.val = 16 * (q.val / 16) + q.val % 16; omega)⟩

/-- A sum over the 256 places is a sum over rows and columns. -/
theorem sum_pix {M : Type*} [AddCommMonoid M] (f : Fin 256 → M) : ∑ q, f q = ∑ r, ∑ c, f (pix r c) := by
  rw [← Fintype.sum_prod_type']
  refine (Fintype.sum_equiv (finProdFinEquiv : Fin 16 × Fin 16 ≃ Fin 256) _ _ fun x => ?_).symm
  congr 1
  exact Fin.ext (by show 16 * x.1.val + x.2.val = x.2.val + 16 * x.1.val; omega)

/-- The rows of a tile. -/
abbrev Rows := Fin 96 → Fin 256 → ℝ

/-- The basis: the first two rows and ones. -/
def base (D : Rows) (i : Fin 3) (q : Fin 256) : ℝ := ![D 0 q, D 1 q, 1] i

/-- The Gram matrix of the basis. -/
def gram (D : Rows) (i j : Fin 3) : ℝ := ∑ q, base D i q * base D j q

/-- A row's products with the basis. -/
def moment (D : Rows) (j : Fin 3) (n : Fin 96) : ℝ := ∑ q, base D j q * D n q

/-- A row's projection, its sums grouped as the reference takes them. -/
def proj (D : Rows) (n : Fin 96) (q : Fin 256) : ℝ :=
  ∑ i, base D i q * ∑ s, (∑ j, rcof (gram D) j i / rdet (gram D) * base D j s) * D n s

theorem proj_eq (D : Rows) (n : Fin 96) (q : Fin 256) :
    proj D n q = ∑ i, base D i q * ∑ j, rcof (gram D) j i / rdet (gram D) * moment D j n := by
  unfold proj moment
  refine Finset.sum_congr rfl fun i _ => congrArg _ ?_
  simp only [Finset.sum_mul, Finset.mul_sum]
  rw [Finset.sum_comm]
  simp only [mul_assoc]

/-- A tile's rows, times the step. -/
def rows (T : Tile) (L : ℝ) : Rows := fun n q => T n ⟨q.val / 16, by omega⟩ ⟨q.val % 16, by omega⟩ * L

theorem rows_pix (T : Tile) (L : ℝ) (n : Fin 96) (r c : Fin 16) : rows T L n (pix r c) = T n r c * L := by
  unfold rows
  congr 2
  · exact Fin.ext (show (16 * r.val + c.val) / 16 = r.val by omega)
  · exact Fin.ext (show (16 * r.val + c.val) % 16 = c.val by omega)

variable (T : Tile) (L : ℝ)

theorem sum_dot (n k : Fin 96) : ∑ q, rows T L k q * rows T L n q = L * L * dot T n k := by
  rw [sum_pix]
  unfold dot
  simp only [rows_pix, Finset.mul_sum]
  exact Finset.sum_congr rfl fun r _ => Finset.sum_congr rfl fun c _ => by ring

theorem sum_tot (n : Fin 96) : ∑ q, rows T L n q = L * tot T n := by
  rw [sum_pix]
  unfold tot
  simp only [rows_pix, Finset.mul_sum]
  exact Finset.sum_congr rfl fun r _ => Finset.sum_congr rfl fun c _ => by ring

theorem dot_comm (n k : Fin 96) : dot T n k = dot T k n := by
  unfold dot
  exact Finset.sum_congr rfl fun r _ => Finset.sum_congr rfl fun c _ => mul_comm _ _

theorem moment_0 (n : Fin 96) : moment (rows T L) 0 n = L * L * dot T n 0 := sum_dot T L n 0
theorem moment_1 (n : Fin 96) : moment (rows T L) 1 n = L * L * dot T n 1 := sum_dot T L n 1
theorem moment_2 (n : Fin 96) : moment (rows T L) 2 n = L * tot T n := by
  rw [← sum_tot]; exact Finset.sum_congr rfl fun q _ => one_mul _

theorem gram_00 : gram (rows T L) 0 0 = L * L * dot T 0 0 := moment_0 T L 0
theorem gram_01 : gram (rows T L) 0 1 = L * L * dot T 1 0 := moment_0 T L 1
theorem gram_10 : gram (rows T L) 1 0 = L * L * dot T 1 0 := (moment_1 T L 0).trans (by rw [dot_comm])
theorem gram_11 : gram (rows T L) 1 1 = L * L * dot T 1 1 := moment_1 T L 1
theorem gram_20 : gram (rows T L) 2 0 = L * tot T 0 := moment_2 T L 0
theorem gram_21 : gram (rows T L) 2 1 = L * tot T 1 := moment_2 T L 1
theorem gram_comm (D : Rows) (i j : Fin 3) : gram D i j = gram D j i := Finset.sum_congr rfl fun _ _ => mul_comm _ _
theorem gram_02 : gram (rows T L) 0 2 = L * tot T 0 := (gram_comm _ _ _).trans (gram_20 T L)
theorem gram_12 : gram (rows T L) 1 2 = L * tot T 1 := (gram_comm _ _ _).trans (gram_21 T L)
theorem gram_22 (D : Rows) : gram D 2 2 = 256 := by
  show ∑ _q : Fin 256, (1 : ℝ) * 1 = 256
  simp

theorem rcof_eq (M : Fin 3 → Fin 3 → ℝ) :
    rcof M 0 0 = M 1 1 * M 2 2 - M 1 2 * M 2 1 ∧ rcof M 0 1 = M 1 2 * M 2 0 - M 1 0 * M 2 2 ∧
    rcof M 0 2 = M 1 0 * M 2 1 - M 1 1 * M 2 0 ∧ rcof M 1 0 = M 2 1 * M 0 2 - M 2 2 * M 0 1 ∧
    rcof M 1 1 = M 2 2 * M 0 0 - M 2 0 * M 0 2 ∧ rcof M 1 2 = M 2 0 * M 0 1 - M 2 1 * M 0 0 ∧
    rcof M 2 0 = M 0 1 * M 1 2 - M 0 2 * M 1 1 ∧ rcof M 2 1 = M 0 2 * M 1 0 - M 0 0 * M 1 2 ∧
    rcof M 2 2 = M 0 0 * M 1 1 - M 0 1 * M 1 0 := ⟨rfl, rfl, rfl, rfl, rfl, rfl, rfl, rfl, rfl⟩

/-- The determinant of the Gram matrix, from the tile's. -/
theorem rdet_gram : rdet (gram (rows T L)) = L ^ 4 * gdet T := by
  obtain ⟨h0, h1, h2, -⟩ := rcof_eq (gram (rows T L))
  unfold rdet gdet c11 c12 c13
  rw [Fin.sum_univ_three, h0, h1, h2]
  simp only [gram_00, gram_01, gram_02, gram_10, gram_11, gram_12, gram_20, gram_21, gram_22]
  ring

/-- The projection of a row is the fit, times the step. -/
theorem proj_rows (hL : L ≠ 0) (hg : gdet T ≠ 0) (n : Fin 96) (r c : Fin 16) :
    proj (rows T L) n (pix r c) = fit T n r c * L := by
  obtain ⟨h0, h1, h2, h3, h4, h5, h6, h7, h8⟩ := rcof_eq (gram (rows T L))
  have b0 : base (rows T L) 0 (pix r c) = T 0 r c * L := rows_pix T L 0 r c
  have b1 : base (rows T L) 1 (pix r c) = T 1 r c * L := rows_pix T L 1 r c
  have b2 : base (rows T L) 2 (pix r c) = 1 := rfl
  rw [proj_eq]
  simp only [Fin.sum_univ_three, b0, b1, b2, moment_0, moment_1, moment_2, rdet_gram, h0, h1, h2, h3, h4, h5, h6, h7, h8,
    gram_00, gram_01, gram_02, gram_10, gram_11, gram_12, gram_20, gram_21, gram_22]
  unfold fit k1 k2 k3 c11 c12 c13 c22 c23 c33
  generalize gdet T = g at hg ⊢
  field_simp

/-- The rows' loss after rounding is the tile's, times the step squared. -/
theorem loss_rows (n : Fin 96) :
    ∑ q, (rows T L n q - rnd (fit T n ⟨q.val / 16, by omega⟩ ⟨q.val % 16, by omega⟩) * L)
      * (rows T L n q - rnd (fit T n ⟨q.val / 16, by omega⟩ ⟨q.val % 16, by omega⟩) * L) = loss T n * (L * L) := by
  rw [sum_pix]
  unfold loss
  simp only [Finset.sum_mul]
  refine Finset.sum_congr rfl fun r _ => Finset.sum_congr rfl fun c _ => ?_
  have e1 (h) : (⟨(pix r c).val / 16, h⟩ : Fin 16) = r := Fin.ext (show (16 * r.val + c.val) / 16 = r.val by omega)
  have e2 (h) : (⟨(pix r c).val % 16, h⟩ : Fin 16) = c := Fin.ext (show (16 * r.val + c.val) % 16 = c.val by omega)
  rw [rows_pix, e1, e2]
  ring

end Cert.Ref

end
-- ==== Proof.RefInput.lean ====
module

public import proofs.«01_k».proof.Proof.RealFit

/-! # The reference's differences, step and quantised tiles -/

@[expose] public section

noncomputable section

namespace Cert.Ref

open Cert.ReferenceIdeal Cert.ReferenceIdeal.Gen Cert.ReferenceIdeal.Read Idealize.ShloMosaic Idealize.ShloMosaic.ValueIdx Cert.Val

variable (X : Arr)

/-- The left neighbour. -/
theorem v2_apply (n : Fin 96) (h w : Fin 512) : val_main_v2 (F := Ideal) X (ix4 0 n h w) = left X n h w := by
  unfold val_main_v2 left
  split_ifs with hw
  · refine (concatenate_pair_apply_left (t := S1x96x512x512) (s₁ := S1x96x512x1) (s₂ := S1x96x512x511) 3 _ _ _ (ix4 0 n h w) rfl
      (ix4 0 n h (0 : Fin 1)) (fun d => by
      match d with
      | ⟨0, _⟩ => rfl
      | ⟨1, _⟩ => rfl
      | ⟨2, _⟩ => rfl
      | ⟨3, _⟩ => exact hw.symm)).trans ?_
    rw [val_main_v0_apply]
    exact bits_zero.trans EReal.coe_zero
  · have hl := w.isLt
    refine (concatenate_pair_apply_right (t := S1x96x512x512) (s₁ := S1x96x512x1) (s₂ := S1x96x512x511) 3 _ _ _ (ix4 0 n h w) rfl rfl
      (ix4 0 n h (⟨w.val - 1, by omega⟩ : Fin 511)) (fun d hd => by
      match d with
      | ⟨0, _⟩ => rfl
      | ⟨1, _⟩ => rfl
      | ⟨2, _⟩ => rfl
      | ⟨3, _⟩ => exact absurd rfl hd) (by show w.val - 1 + 1 = w.val; omega)).trans ?_
    rw [val_main_v1_apply]
    refine congrArg X (funext fun d => Fin.ext ?_)
    match d with
    | ⟨0, _⟩ => rfl
    | ⟨1, _⟩ => rfl
    | ⟨2, _⟩ => rfl
    | ⟨3, _⟩ => rfl

/-- The difference. -/
theorem v3_apply (n : Fin 96) (h w : Fin 512) : val_main_v3 (F := Ideal) X (ix4 0 n h w) = diff X n h w := by
  rw [val_main_v3_apply]
  show X (ix4 0 n h w) - val_main_v2 (F := Ideal) X (ix4 0 n h w) = _
  rw [v2_apply]
  rfl

/-- The magnitude. -/
theorem v4_apply (n : Fin 96) (h w : Fin 512) : val_main_v4 (F := Ideal) X (ix4 0 n h w) = mag X n h w := by
  rw [val_main_v4_apply, v3_apply]
  rfl

/-- The maximum over every entry. -/
theorem maxAll (x : FVec Ideal S1x96x512x512 .f32) (i : S_.Idx) :
    Host.reduce (FloatOps.maximumf (F := Ideal) (φ := .f32)) x (constant S_ .f32 0xFF800000#32) reducesTo_S1x96x512x512_S_d0_1_2_3 h_S_ i
      = (Finset.univ : Finset S1x96x512x512.Idx).fold max ⊥ x := by
  refine (Host.reduce_eq_fold (max : EReal → EReal → EReal) x (constant (F := Ideal) S_ .f32 0xFF800000#32)
    reducesTo_S1x96x512x512_S_d0_1_2_3 h_S_ i).trans ?_
  rw [Finset.filter_true_of_mem fun j _ => funext fun b => b.elim0]
  exact congrArg (fun b => (Finset.univ : Finset S1x96x512x512.Idx).fold max b x) bits_bot

/-- The largest magnitude. -/
def peak : EReal := val_main_v5 (F := Ideal) X ix0

theorem peak_isPeak : IsPeak X (peak X) := by
  intro y
  have e : peak X = (Finset.univ : Finset S1x96x512x512.Idx).fold max ⊥ (val_main_v4 (F := Ideal) X) := by
    unfold peak val_main_v5 val_main_cst_0
    generalize val_main_v4 (F := Ideal) X = y
    exact maxAll y ix0
  rw [e, Finset.fold_max_le]
  constructor
  · rintro ⟨_, h⟩ n r w
    have := h (ix4 0 n r w) (Finset.mem_univ _)
    rwa [v4_apply] at this
  · intro h
    refine ⟨bot_le, fun i _ => ?_⟩
    obtain ⟨z, n, r, w, rfl⟩ : ∃ z n r w, i = ix4 z n r w := ⟨_, _, _, _, eq_ix4 i⟩
    obtain rfl : z = 0 := Subsingleton.elim _ _
    rw [v4_apply]
    exact h n r w

/-- Rounding written as the number plus its distance to the rounded one. -/
def ste (z : EReal) : EReal := z + (Ideal.liftRound Ideal.roundHalfEven z - z)

theorem ste_coe (x : ℝ) : ste (x : EReal) = (rnd x : EReal) := by
  unfold ste
  rw [Ideal.liftRound_coe, ← EReal.coe_sub, ← EReal.coe_add]
  congr 1
  unfold rnd
  ring

theorem ste_bot : ste ⊥ = ⊥ := EReal.bot_add _
theorem ste_top : ste ⊤ = ⊥ := rfl

/-- The step, from the largest magnitude. -/
def stepOf (p : EReal) : EReal :=
  Ideal.pow ((2 : ℝ) : EReal) (ste (Ideal.div (Ideal.log (Ideal.div p ((128 : ℝ) : EReal))) (Ideal.log ((2 : ℝ) : EReal))) + ((1 : ℝ) : EReal))

theorem v14_apply (i : S_.Idx) : val_main_v14 (F := Ideal) X i = stepOf (peak X) := by
  obtain rfl : i = ix0 := funext fun b => b.elim0
  show Ideal.pow (Ideal.ofBits .f32 0x40000000#32) (ste (Ideal.div (Ideal.log (Ideal.div (peak X) (Ideal.ofBits .f32 0x43000000#32)))
    (Ideal.log (Ideal.ofBits .f32 0x40000000#32))) + Ideal.ofBits .f32 0x3F800000#32) = _
  rw [bits_two, bits_128, bits_one]
  rfl

theorem log_two : Ideal.log ((2 : ℝ) : EReal) = (Real.log 2 : EReal) := by
  rw [Ideal.log_coe, if_neg (by norm_num)]

/-- A positive real largest magnitude gives the step of the specification. -/
theorem stepOf_coe (p : ℝ) (hp : 0 < p) : stepOf (p : EReal) = (step p : EReal) := by
  have h2 : Real.log 2 ≠ 0 := (Real.log_pos (by norm_num)).ne'
  unfold stepOf
  rw [div_real _ _ (by norm_num), log_two, Ideal.log_coe, if_neg (not_le.mpr (by positivity)), div_real _ _ h2, ste_coe, ← EReal.coe_add]
  rfl

theorem pow_bot : Ideal.pow ((2 : ℝ) : EReal) ⊥ = 0 := by
  show (if (2 : ℝ) < 0 then (⊥ : EReal) else if 1 < (2 : ℝ) then 0 else if (2 : ℝ) = 1 then 1 else ⊤) = 0
  rw [if_neg (by norm_num), if_pos (by norm_num)]

theorem div_bot_of_pos (x : ℝ) (hx : 0 < x) : Ideal.div ⊥ (x : EReal) = ⊥ := by
  rw [Ideal.div_coe hx.ne']
  exact EReal.bot_mul_coe_of_pos (by positivity)

theorem div_top_of_pos (x : ℝ) (hx : 0 < x) : Ideal.div ⊤ (x : EReal) = ⊤ := by
  rw [Ideal.div_coe hx.ne']
  exact EReal.top_mul_coe_of_pos (by positivity)

/-- A largest magnitude of zero gives the step zero. -/
theorem stepOf_zero : stepOf 0 = 0 := by
  have h2 : 0 < Real.log 2 := Real.log_pos (by norm_num)
  have h : Ideal.div 0 ((128 : ℝ) : EReal) = ((0 : ℝ) : EReal) := by
    rw [Ideal.div_coe (by norm_num), zero_mul, EReal.coe_zero]
  unfold stepOf
  rw [h, log_two, Ideal.log_coe, if_pos le_rfl, div_bot_of_pos _ h2, ste_bot, EReal.bot_add, pow_bot]

/-- An infinite one too. -/
theorem stepOf_top : stepOf ⊤ = 0 := by
  have h2 : 0 < Real.log 2 := Real.log_pos (by norm_num)
  unfold stepOf
  rw [div_top_of_pos _ (by norm_num), show Ideal.log ⊤ = ⊤ from rfl, log_two, div_top_of_pos _ h2, ste_top, EReal.bot_add, pow_bot]

/-- One quantised difference. -/
def quant (L d : EReal) : EReal := ste (Ideal.div d L) * L

/-- At the step zero every difference becomes zero. -/
theorem quant_zero (d : EReal) : quant 0 d = 0 := mul_zero _

theorem quant_coe (L d : ℝ) (hL : L ≠ 0) : quant L d = ((rnd (d / L) * L : ℝ) : EReal) := by
  unfold quant
  rw [div_real _ _ hL, ste_coe, ← EReal.coe_mul]

theorem v21_apply (n : Fin 96) (h w : Fin 512) :
    val_main_v21 (F := Ideal) X (ix4 0 n h w) = quant (stepOf (peak X)) (diff X n h w) := by
  rw [val_main_v21_apply, val_main_v19_apply, val_main_v18_apply, val_main_v20_apply, v14_apply]
  have e : val_main_v16 (F := Ideal) X (ix4 0 n h w) = Ideal.div (diff X n h w) (stepOf (peak X)) := by
    rw [val_main_v16_apply, val_main_v15_apply, v14_apply, v3_apply]
    rfl
  have e' : val_main_v17 (F := Ideal) X (ix4 0 n h w) = Ideal.liftRound Ideal.roundHalfEven (Ideal.div (diff X n h w) (stepOf (peak X))) :=
    congrArg (Ideal.liftRound Ideal.roundHalfEven) e
  rw [e, e']
  rfl

/-- A tile's entries are the quantised differences at its rows and columns. -/
theorem v24_apply (a b : Fin 32) (n : Fin 96) (r c : Fin 16) :
    val_main_v24 (F := Ideal) X (ix4 a b n (pix r c)) = quant (stepOf (peak X)) (diff X n (col b r) (col a c)) := by
  unfold val_main_v24
  refine (shapeCast_apply (s := S32x32x96x16x16) (t := S32x32x96x256) _ _ (ix4 a b n (pix r c)) (ix5 a b n r c) (by
    rw [Shape.rowMajor_val_five, Shape.rowMajor_val_four]
    show (((a.val * 32 + b.val) * 96 + n.val) * 16 + r.val) * 16 + c.val = ((a.val * 32 + b.val) * 96 + n.val) * 256 + (16 * r.val + c.val)
    omega)).trans ?_
  rw [val_main_v23_apply]
  have hi : idx_main_v23 (ix5 a b n r c) = ix5 n b r a c := funext fun d => Fin.ext (by
    match d with
    | ⟨0, _⟩ => rfl
    | ⟨1, _⟩ => rfl
    | ⟨2, _⟩ => rfl
    | ⟨3, _⟩ => rfl
    | ⟨4, _⟩ => rfl)
  rw [hi]
  unfold val_main_v22
  refine (shapeCast_apply (s := S1x96x512x512) (t := S96x32x16x32x16) _ _ (ix5 n b r a c) (ix4 (0 : Fin 1) n (col b r) (col a c)) (by
    rw [Shape.rowMajor_val_five, Shape.rowMajor_val_four]
    show ((0 * 96 + n.val) * 512 + (16 * b.val + r.val)) * 512 + (16 * a.val + c.val)
      = (((n.val * 32 + b.val) * 16 + r.val) * 32 + a.val) * 16 + c.val
    omega)).trans ?_
  exact v21_apply X n (col b r) (col a c)

end Cert.Ref

end
-- ==== Proof.RefFit.lean ====
module

public import proofs.«01_k».proof.Proof.RefInput

/-! # The reference's fit of one tile

Throughout, one tile is fixed and its rows are real numbers. The basis, its Gram matrix, the determinant, the inverse,
the projection and the selection are read off as real numbers. -/

@[expose] public section

noncomputable section

namespace Cert.Ref

open Cert.ReferenceIdeal Cert.ReferenceIdeal.Gen Cert.ReferenceIdeal.Read Idealize.ShloMosaic Idealize.ShloMosaic.ValueIdx Cert.Val

/-- The rows of one tile are the real numbers `D`. -/
def IsRows (X : Arr) (a b : Fin 32) (D : Rows) : Prop := ∀ n q, val_main_v24 (F := Ideal) X (ix4 a b n q) = (D n q : EReal)

variable {X : Arr} {a b : Fin 32} {D : Rows} (hD : IsRows X a b D)
include hD

/-- The basis. -/
theorem v28_apply (i : Fin 3) (q : Fin 256) : val_main_v28 (F := Ideal) X (ix4 a b i q) = (base D i q : EReal) := by
  unfold val_main_v28
  match i with
  | 0 =>
    refine (concatenate_apply_piece (t := S32x32x3x256) 2 _ _ (ix4 a b (0 : Fin 3) q) 0 (by exact (by decide : 0 < 3)) S32x32x1x256 _ rfl rfl 0 rfl
      (ix4 a b (0 : Fin 1) q) (fun d hd => by
        match d with
        | ⟨0, _⟩ => rfl
        | ⟨1, _⟩ => rfl
        | ⟨2, _⟩ => exact absurd rfl hd
        | ⟨3, _⟩ => rfl) rfl).trans ?_
    rw [val_main_v25_apply]
    refine (congrArg _ (funext fun d => Fin.ext ?_)).trans (hD 0 q)
    match d with
    | ⟨0, _⟩ => rfl
    | ⟨1, _⟩ => rfl
    | ⟨2, _⟩ => rfl
    | ⟨3, _⟩ => rfl
  | 1 =>
    refine (concatenate_apply_piece (t := S32x32x3x256) 2 _ _ (ix4 a b (1 : Fin 3) q) 1 (by exact (by decide : 1 < 3)) S32x32x1x256 _ rfl rfl 1 rfl
      (ix4 a b (0 : Fin 1) q) (fun d hd => by
        match d with
        | ⟨0, _⟩ => rfl
        | ⟨1, _⟩ => rfl
        | ⟨2, _⟩ => exact absurd rfl hd
        | ⟨3, _⟩ => rfl) rfl).trans ?_
    rw [val_main_v26_apply]
    refine (congrArg _ (funext fun d => Fin.ext ?_)).trans (hD 1 q)
    match d with
    | ⟨0, _⟩ => rfl
    | ⟨1, _⟩ => rfl
    | ⟨2, _⟩ => rfl
    | ⟨3, _⟩ => rfl
  | 2 =>
    refine (concatenate_apply_piece (t := S32x32x3x256) 2 _ _ (ix4 a b (2 : Fin 3) q) 2 (by exact (by decide : 2 < 3)) S32x32x1x256 _ rfl rfl 2 rfl
      (ix4 a b (0 : Fin 1) q) (fun d hd => by
        match d with
        | ⟨0, _⟩ => rfl
        | ⟨1, _⟩ => rfl
        | ⟨2, _⟩ => exact absurd rfl hd
        | ⟨3, _⟩ => rfl) rfl).trans ?_
    rw [val_main_v27_apply]
    exact bits_one

/-- The basis, transposed. -/
theorem v29_apply (i : Fin 3) (q : Fin 256) : val_main_v29 (F := Ideal) X (ix4 a b q i) = (base D i q : EReal) := by
  rw [val_main_v29_apply, ← v28_apply hD]
  exact congrArg _ (funext fun d => Fin.ext (by
    match d with
    | ⟨0, _⟩ => rfl
    | ⟨1, _⟩ => rfl
    | ⟨2, _⟩ => rfl
    | ⟨3, _⟩ => rfl))

/-- The Gram matrix. -/
theorem v30_apply (i j : Fin 3) : val_main_v30 (F := Ideal) X (ix4 a b i j) = (gram D i j : EReal) := by
  rw [val_main_v30_apply]
  unfold gram
  rw [coe_sum]
  refine Finset.sum_congr rfl fun q _ => ?_
  have el : lidx_main_v30 (ix4 a b i j) q = ix4 a b i q := funext fun d => Fin.ext (by
    match d with
    | ⟨0, _⟩ => rfl
    | ⟨1, _⟩ => rfl
    | ⟨2, _⟩ => rfl
    | ⟨3, _⟩ => rfl)
  have er : ridx_main_v30 (ix4 a b i j) q = ix4 a b q j := funext fun d => Fin.ext (by
    match d with
    | ⟨0, _⟩ => rfl
    | ⟨1, _⟩ => rfl
    | ⟨2, _⟩ => rfl
    | ⟨3, _⟩ => rfl)
  rw [el, er, v28_apply hD, v29_apply hD, EReal.coe_mul]

omit hD in
theorem v52_eq : val_main_v52 (F := Ideal) X = det (val_main_v30 (F := Ideal) X) (cof (val_main_v30 (F := Ideal) X)) := by
  rfl

omit hD in
theorem v80_eq : val_main_v80 (F := Ideal) X = cof (val_main_v62 (F := Ideal) X) := by rfl

omit hD in
theorem v85_eq : val_main_v85 (F := Ideal) X = det (val_main_v62 (F := Ideal) X) (cof (val_main_v62 (F := Ideal) X)) := by
  rfl

/-- The determinant. -/
theorem v52_apply : val_main_v52 (F := Ideal) X (ix2 a b) = (rdet (gram D) : EReal) := by
  rw [v52_eq]
  exact det_apply _ a b _ (v30_apply hD)

variable (hdet : rdet (gram D) ≠ 0)
include hdet

/-- A nonsingular Gram matrix is kept. -/
theorem v62_apply (i j : Fin 3) : val_main_v62 (F := Ideal) X (ix4 a b i j) = (gram D i j : EReal) := by
  have h : val_main_call2_v0 (F := Ideal) X (ix4 a b i j) = 0#1 := by
    rw [val_main_call2_v0_apply, val_main_v55_apply, val_main_v54_apply]
    have e : idx_main_v55 (idx_main_call2_v0 (ix4 a b i j)) = ix2 a b := funext fun d => Fin.ext (by
      match d with
      | ⟨0, _⟩ => rfl
      | ⟨1, _⟩ => rfl)
    rw [e, v52_apply hD]
    refine (show _ = Ideal.cmp .oeq (rdet (gram D) : EReal) (Ideal.ofBits .f32 0x00000000#32) from rfl).trans ?_
    rw [bits_zero]
    show BitVec.ofBool (decide ((rdet (gram D) : EReal) = ((0 : ℝ) : EReal))) = 0#1
    rw [decide_eq_false (fun he => hdet (EReal.coe_injective he))]
    rfl
  rw [val_main_v62_apply, h, v30_apply hD]
  exact select_zero _ _

/-- The inverse of the Gram matrix. -/
theorem v88_apply (i j : Fin 3) : val_main_v88 (F := Ideal) X (ix4 a b i j) = ((rcof (gram D) j i / rdet (gram D) : ℝ) : EReal) := by
  rw [val_main_v88_apply, val_main_v81_apply, val_main_v87_apply, val_main_v86_apply, v80_eq, v85_eq]
  have e : idx_main_v81 (ix4 a b i j) = ix4 a b j i := funext fun d => Fin.ext (by
    match d with
    | ⟨0, _⟩ => rfl
    | ⟨1, _⟩ => rfl
    | ⟨2, _⟩ => rfl
    | ⟨3, _⟩ => rfl)
  have e' : idx_main_v86 (idx_main_v87 (ix4 a b i j)) = ix2 a b := funext fun d => Fin.ext (by
    match d with
    | ⟨0, _⟩ => rfl
    | ⟨1, _⟩ => rfl)
  rw [e, e', cof_apply _ a b _ (v62_apply hD hdet), det_apply _ a b _ (v62_apply hD hdet)]
  exact div_real _ _ hdet

/-- The inverse times the basis. -/
theorem v89_apply (i : Fin 3) (s : Fin 256) : val_main_v89 (F := Ideal) X (ix4 a b i s)
    = ((∑ j, rcof (gram D) j i / rdet (gram D) * base D j s : ℝ) : EReal) := by
  rw [val_main_v89_apply, coe_sum]
  refine Finset.sum_congr rfl fun j _ => ?_
  have el : lidx_main_v89 (ix4 a b i s) j = ix4 a b i j := funext fun d => Fin.ext (by
    match d with
    | ⟨0, _⟩ => rfl
    | ⟨1, _⟩ => rfl
    | ⟨2, _⟩ => rfl
    | ⟨3, _⟩ => rfl)
  have er : ridx_main_v89 (ix4 a b i s) j = ix4 a b j s := funext fun d => Fin.ext (by
    match d with
    | ⟨0, _⟩ => rfl
    | ⟨1, _⟩ => rfl
    | ⟨2, _⟩ => rfl
    | ⟨3, _⟩ => rfl)
  rw [el, er, v88_apply hD hdet, v28_apply hD, EReal.coe_mul]

/-- The coefficients of a row. -/
theorem v91_apply (i : Fin 3) (n : Fin 96) : val_main_v91 (F := Ideal) X (ix4 a b i n)
    = ((∑ s, (∑ j, rcof (gram D) j i / rdet (gram D) * base D j s) * D n s : ℝ) : EReal) := by
  rw [val_main_v91_apply, coe_sum]
  refine Finset.sum_congr rfl fun s _ => ?_
  have el : lidx_main_v91 (ix4 a b i n) s = ix4 a b i s := funext fun d => Fin.ext (by
    match d with
    | ⟨0, _⟩ => rfl
    | ⟨1, _⟩ => rfl
    | ⟨2, _⟩ => rfl
    | ⟨3, _⟩ => rfl)
  have er : idx_main_v90 (ridx_main_v91 (ix4 a b i n) s) = ix4 a b n s := funext fun d => Fin.ext (by
    match d with
    | ⟨0, _⟩ => rfl
    | ⟨1, _⟩ => rfl
    | ⟨2, _⟩ => rfl
    | ⟨3, _⟩ => rfl)
  rw [el, v89_apply hD hdet, val_main_v90_apply, er, hD, EReal.coe_mul]

/-- The projection. -/
theorem v93_apply (n : Fin 96) (q : Fin 256) : val_main_v93 (F := Ideal) X (ix4 a b n q) = (proj D n q : EReal) := by
  have e : idx_main_v93 (ix4 a b n q) = ix4 a b q n := funext fun d => Fin.ext (by
    match d with
    | ⟨0, _⟩ => rfl
    | ⟨1, _⟩ => rfl
    | ⟨2, _⟩ => rfl
    | ⟨3, _⟩ => rfl)
  rw [val_main_v93_apply, e, val_main_v92_apply]
  unfold proj
  rw [coe_sum]
  refine Finset.sum_congr rfl fun i _ => ?_
  have el : lidx_main_v92 (ix4 a b q n) i = ix4 a b q i := funext fun d => Fin.ext (by
    match d with
    | ⟨0, _⟩ => rfl
    | ⟨1, _⟩ => rfl
    | ⟨2, _⟩ => rfl
    | ⟨3, _⟩ => rfl)
  have er : ridx_main_v92 (ix4 a b q n) i = ix4 a b i n := funext fun d => Fin.ext (by
    match d with
    | ⟨0, _⟩ => rfl
    | ⟨1, _⟩ => rfl
    | ⟨2, _⟩ => rfl
    | ⟨3, _⟩ => rfl)
  rw [el, er, v29_apply hD, v91_apply hD hdet, EReal.coe_mul]

variable {L : ℝ} (hL : L ≠ 0) (hstep : stepOf (peak X) = (L : EReal))
include hL hstep

/-- The rounded projection. -/
theorem v100_apply (n : Fin 96) (q : Fin 256) :
    val_main_v100 (F := Ideal) X (ix4 a b n q) = ((rnd (proj D n q / L) * L : ℝ) : EReal) := by
  have h95 : val_main_v95 (F := Ideal) X (ix4 a b n q) = ((proj D n q / L : ℝ) : EReal) := by
    rw [val_main_v95_apply, val_main_v94_apply, v14_apply, hstep, v93_apply hD hdet]
    exact div_real _ _ hL
  have h96 : val_main_v96 (F := Ideal) X (ix4 a b n q) = Ideal.liftRound Ideal.roundHalfEven ((proj D n q / L : ℝ) : EReal) :=
    congrArg (Ideal.liftRound Ideal.roundHalfEven) h95
  rw [val_main_v100_apply, val_main_v98_apply, val_main_v97_apply, val_main_v99_apply, v14_apply, hstep, h95, h96]
  refine (show _ = ste ((proj D n q / L : ℝ) : EReal) * (L : EReal) from rfl).trans ?_
  rw [ste_coe, ← EReal.coe_mul]

/-- The loss of a row. -/
theorem v103_apply (n : Fin 96) : val_main_v103 (F := Ideal) X (ix3 a b n)
    = ((∑ q, (D n q - rnd (proj D n q / L) * L) * (D n q - rnd (proj D n q / L) * L) : ℝ) : EReal) := by
  rw [val_main_v103_apply, val_main_cst_9_apply, coe_sum]
  refine (congrArg (· + _) (bits_zero.trans EReal.coe_zero)).trans ((zero_add _).trans ?_)
  refine Finset.sum_congr rfl fun q _ => ?_
  have e : idx_main_v103 (ix3 a b n) q = ix4 a b n q := funext fun d => Fin.ext (by
    match d with
    | ⟨0, _⟩ => rfl
    | ⟨1, _⟩ => rfl
    | ⟨2, _⟩ => rfl
    | ⟨3, _⟩ => rfl)
  rw [e, val_main_v102_apply, val_main_v101_apply, hD, v100_apply hD hdet hL hstep]
  refine (show _ = ((D n q : EReal) - _) * ((D n q : EReal) - _) from rfl).trans ?_
  rw [← EReal.coe_sub, ← EReal.coe_mul]

/-- What a row becomes. -/
theorem v107_apply (n : Fin 96) (q : Fin 256) : val_main_v107 (F := Ideal) X (ix4 a b n q)
    = ((if ∑ s, (D n s - rnd (proj D n s / L) * L) * (D n s - rnd (proj D n s / L) * L) ≤ 1 then rnd (proj D n q / L) * L
        else D n q : ℝ) : EReal) := by
  have h : val_main_call4_v0 (F := Ideal) X (ix4 a b n q)
      = BitVec.ofBool (decide (∑ s, (D n s - rnd (proj D n s / L) * L) * (D n s - rnd (proj D n s / L) * L) ≤ 1)) := by
    have e : idx_main_v106 (idx_main_call4_v0 (ix4 a b n q)) = ix3 a b n := funext fun d => Fin.ext (by
      match d with
      | ⟨0, _⟩ => rfl
      | ⟨1, _⟩ => rfl
      | ⟨2, _⟩ => rfl)
    rw [val_main_call4_v0_apply, val_main_v106_apply, e, val_main_v105_apply, v103_apply hD hdet hL hstep, val_main_v104_apply]
    refine (show _ = Ideal.cmp .ole _ (Ideal.ofBits .f32 0x3F800000#32) from rfl).trans ?_
    rw [bits_one]
    exact congrArg BitVec.ofBool (decide_eq_decide.mpr EReal.coe_le_coe_iff)
  rw [val_main_v107_apply, h, v100_apply hD hdet hL hstep, hD]
  split_ifs with hc
  · rw [decide_eq_true hc]; exact select_one _ _
  · rw [decide_eq_false hc]; exact select_zero _ _

end Cert.Ref

end
-- ==== Proof.RefValue.lean ====
module

public import proofs.«01_k».proof.Proof.RefFit

/-! # What the reference computes

At a positive real largest magnitude, with every tile's determinant nonzero, the reference's result is the value of the
specification. Elsewhere the quantised tiles are zero, and so are their determinants. -/

@[expose] public section

noncomputable section

namespace Cert.Ref

open Cert.ReferenceIdeal Cert.ReferenceIdeal.Gen Cert.ReferenceIdeal.Read Idealize.ShloMosaic Idealize.ShloMosaic.ValueIdx Cert.Val

/-- At a positive real largest magnitude a tile's rows are the specification's, times the step. -/
theorem isRows (X : Arr) (p : ℝ) (hp : 0 < p) (hpk : peak X = (p : EReal)) (a b : Fin 32) :
    IsRows X a b (rows (tile X (step p) b a) (step p)) := by
  intro n q
  obtain ⟨r, c, rfl⟩ := exists_pix q
  obtain ⟨d, hd⟩ := IsPeak.diff_real X (hpk ▸ peak_isPeak X) n (col b r) (col a c)
  rw [v24_apply, hpk, stepOf_coe p hp, hd, quant_coe _ _ (step_pos p).ne', rows_pix]
  unfold tile
  rw [hd, EReal.toReal_coe]

/-- At the step zero a tile's rows are zero. -/
theorem isRows_zero (X : Arr) (h0 : stepOf (peak X) = 0) (a b : Fin 32) : IsRows X a b (fun _ _ => 0) := by
  intro n q
  obtain ⟨r, c, rfl⟩ := exists_pix q
  rw [v24_apply, h0, quant_zero, EReal.coe_zero]

/-- Their determinant is zero. -/
theorem rdet_zero : rdet (gram fun _ _ => 0) = 0 := by
  have h (j : Fin 3) : gram (fun _ _ => 0) 0 j = 0 := Finset.sum_eq_zero fun q _ => zero_mul _
  unfold rdet
  simp only [h, zero_mul, Finset.sum_const_zero]

/-- A tile of the result, before the left neighbour is added back. -/
theorem v107_value (X : Arr) (p : ℝ) (hp : 0 < p) (hpk : peak X = (p : EReal)) (hg : Good X (step p)) (a b : Fin 32) (n : Fin 96)
    (r c : Fin 16) : val_main_v107 (F := Ideal) X (ix4 a b n (pix r c)) = (fitted (tile X (step p) b a) (step p) n r c : EReal) := by
  have hL : step p ≠ 0 := (step_pos p).ne'
  have hdet : rdet (gram (rows (tile X (step p) b a) (step p))) ≠ 0 := by
    rw [rdet_gram]; exact mul_ne_zero (pow_ne_zero _ hL) (hg b a)
  rw [v107_apply (isRows X p hp hpk a b) hdet hL (by rw [hpk, stepOf_coe p hp])]
  have hproj (s : Fin 256) : proj (rows (tile X (step p) b a) (step p)) n s / step p
      = fit (tile X (step p) b a) n ⟨s.val / 16, by omega⟩ ⟨s.val % 16, by omega⟩ := by
    have e : s = pix ⟨s.val / 16, by omega⟩ ⟨s.val % 16, by omega⟩ := Fin.ext (by show s.val = 16 * (s.val / 16) + s.val % 16; omega)
    rw [div_eq_iff hL, ← proj_rows _ _ hL (hg b a), ← e]
  have hpc : proj (rows (tile X (step p) b a) (step p)) n (pix r c) / step p = fit (tile X (step p) b a) n r c := by
    rw [div_eq_iff hL, proj_rows _ _ hL (hg b a)]
  rw [hpc, rows_pix]
  simp only [hproj]
  rw [loss_rows]
  unfold fitted
  rw [ite_mul]

/-- The reference's result. -/
theorem v111_value (X : Arr) (p : ℝ) (hp : 0 < p) (hpk : peak X = (p : EReal)) (hg : Good X (step p)) (n : Fin 96) (h w : Fin 512) :
    val_main_v111 (F := Ideal) X (ix4 0 n h w) = value X (step p) n h w := by
  obtain ⟨b, r, rfl⟩ := exists_col h
  obtain ⟨a, c, rfl⟩ := exists_col w
  rw [value_col, ← v107_value X p hp hpk hg, ← v2_apply, val_main_v111_apply]
  refine congrArg (· + _) ?_
  unfold val_main_v110
  refine (shapeCast_apply (s := S96x32x16x32x16) (t := S1x96x512x512) _ _ (ix4 (0 : Fin 1) n (col b r) (col a c)) (ix5 n b r a c) (by
    rw [Shape.rowMajor_val_five, Shape.rowMajor_val_four]
    show (((n.val * 32 + b.val) * 16 + r.val) * 32 + a.val) * 16 + c.val
      = ((0 * 96 + n.val) * 512 + (16 * b.val + r.val)) * 512 + (16 * a.val + c.val)
    omega)).trans ?_
  rw [val_main_v109_apply]
  have hi : idx_main_v109 (ix5 n b r a c) = ix5 a b n r c := funext fun d => Fin.ext (by
    match d with
    | ⟨0, _⟩ => rfl
    | ⟨1, _⟩ => rfl
    | ⟨2, _⟩ => rfl
    | ⟨3, _⟩ => rfl
    | ⟨4, _⟩ => rfl)
  rw [hi]
  unfold val_main_v108
  exact shapeCast_apply (s := S32x32x96x256) (t := S32x32x96x16x16) _ _ (ix5 a b n r c) (ix4 a b n (pix r c)) (by
    rw [Shape.rowMajor_val_five, Shape.rowMajor_val_four]
    show ((a.val * 32 + b.val) * 96 + n.val) * 256 + (16 * r.val + c.val) = (((a.val * 32 + b.val) * 96 + n.val) * 16 + r.val) * 16 + c.val
    omega)

end Cert.Ref

end
-- ==== Proof.Predicate.lean ====
module

public import proofs.«01_k».proof.Pre_nonsingular
public import proofs.«01_k».proof.Proof.Gen.Pre_nonsingular
public import proofs.«01_k».proof.Proof.RefValue

/-! # What the precondition gives

The precondition says that the Gram matrix of every tile's basis has a nonzero determinant. It follows that the largest
magnitude is a positive real number and that the specification's determinants are nonzero. -/

@[expose] public section

noncomputable section

namespace Cert.Ref

open Cert.Pre_nonsingular Cert.Pre_nonsingular.Gen Cert.ReferenceIdeal.Read Idealize.ShloMosaic Idealize.ShloMosaic.ValueIdx Cert.Val

/-- The Gram matrices, as the precondition forms them: the products summed over the last axis. -/
def gramP (B : FVec Ideal S32x32x3x256 .f32) : Mats :=
  Host.reduceAdd (mulf
    (broadcastInDim S32x32x3x3x256 ![0, 1, 2, 3, 4] Facts.bcast_S32x32x3x1x256_S32x32x3x3x256_0_1_2_3_4
      (broadcastInDim S32x32x3x1x256 ![0, 1, 2, 4] Facts.bcast_S32x32x3x256_S32x32x3x1x256_0_1_2_4 B))
    (broadcastInDim S32x32x3x3x256 ![0, 1, 2, 3, 4] Facts.bcast_S32x32x1x3x256_S32x32x3x3x256_0_1_2_3_4
      (broadcastInDim S32x32x1x3x256 ![0, 1, 3, 4] Facts.bcast_S32x32x3x256_S32x32x1x3x256_0_1_3_4 B)))
    (constant S_ .f32 0x00000000#32) Facts.reducesTo_S32x32x3x3x256_S32x32x3x3_d4 Facts.h_S_

/-- One entry of them. -/
theorem gramP_apply (B : FVec Ideal S32x32x3x256 .f32) (a b : Fin 32) (i j : Fin 3) :
    gramP B (ix4 a b i j) = ∑ q : Fin 256, B (ix4 a b i q) * B (ix4 a b j q) := by
  unfold gramP
  simp only [Host.reduceAdd, Ideal.hostReduceAdd_def]
  refine (Ideal.hostReduceAdd_single Facts.reducesTo_S32x32x3x3x256_S32x32x3x3_d4 (by decide) _ _ _).trans ?_
  have hz : constant (F := Ideal) S_ .f32 0x00000000#32 (Shape.Idx.first Facts.h_S_) = 0 := bits_zero.trans EReal.coe_zero
  rw [hz, zero_add]
  refine Finset.sum_congr rfl fun q _ => ?_
  have e : ∀ p : S32x32x3x3x256.Reduces [4] S32x32x3x3, p.lift (ix4 a b i j) q = ix5 a b i j (q : Fin 256) := fun p =>
    funext fun d => Fin.ext (by match d with | ⟨0, _⟩ => rfl | ⟨1, _⟩ => rfl | ⟨2, _⟩ => rfl | ⟨3, _⟩ => rfl | ⟨4, _⟩ => rfl)
  refine (congrArg (mulf (F := Ideal) (φ := .f32) _ _) (e _)).trans ?_
  refine congrArg₂ (· * ·) ?_ ?_
  · refine (broadcastInDim_apply (t := S32x32x3x3x256) (s := S32x32x3x1x256) _ _ _ (ix5 a b i j (q : Fin 256)) (ix5 a b i (0 : Fin 1) (q : Fin 256)) (fun d => by
      match d with
      | ⟨0, _⟩ => rfl
      | ⟨1, _⟩ => rfl
      | ⟨2, _⟩ => rfl
      | ⟨3, _⟩ => rfl
      | ⟨4, _⟩ => rfl)).trans ?_
    exact broadcastInDim_apply (t := S32x32x3x1x256) (s := S32x32x3x256) _ _ B (ix5 a b i (0 : Fin 1) (q : Fin 256)) (ix4 a b i (q : Fin 256)) (fun d => by
      match d with
      | ⟨0, _⟩ => rfl
      | ⟨1, _⟩ => rfl
      | ⟨2, _⟩ => rfl
      | ⟨3, _⟩ => rfl)
  · refine (broadcastInDim_apply (t := S32x32x3x3x256) (s := S32x32x1x3x256) _ _ _ (ix5 a b i j (q : Fin 256)) (ix5 a b (0 : Fin 1) j (q : Fin 256)) (fun d => by
      match d with
      | ⟨0, _⟩ => rfl
      | ⟨1, _⟩ => rfl
      | ⟨2, _⟩ => rfl
      | ⟨3, _⟩ => rfl
      | ⟨4, _⟩ => rfl)).trans ?_
    exact broadcastInDim_apply (t := S32x32x1x3x256) (s := S32x32x3x256) _ _ B (ix5 a b (0 : Fin 1) j (q : Fin 256)) (ix4 a b j (q : Fin 256)) (fun d => by
      match d with
      | ⟨0, _⟩ => rfl
      | ⟨1, _⟩ => rfl
      | ⟨2, _⟩ => rfl
      | ⟨3, _⟩ => rfl)

/-- The precondition is that these matrices' determinants differ from zero. -/
theorem fn_eq (X : Arr) : Cert.Pre_nonsingular.fn (F := Ideal) X
    = cmpf .une (det (gramP (val_main_v28 (F := Ideal) X)) (cof (gramP (val_main_v28 (F := Ideal) X))))
      (broadcastInDim S32x32 ![] Facts.bcast_S_S32x32 (constant S_ .f32 0x00000000#32)) := rfl

/-- Under the precondition a tile with real rows has a nonzero determinant. -/
theorem rdet_ne_zero (X : Arr) (h : Cert.Pre_nonsingular.fn (F := Ideal) X = fun _ => 1#1) {a b : Fin 32} {D : Rows} (hD : IsRows X a b D) :
    rdet (gram D) ≠ 0 := by
  intro h0
  have hab := congrFun ((fn_eq X).symm.trans h) (ix2 a b)
  have hG (i j : Fin 3) : gramP (val_main_v28 (F := Ideal) X) (ix4 a b i j) = (gram D i j : EReal) := by
    rw [gramP_apply]
    unfold gram
    rw [coe_sum]
    exact Finset.sum_congr rfl fun q _ => by rw [v28_apply hD, v28_apply hD, EReal.coe_mul]
  rw [cmpf_apply, det_apply _ a b _ hG, h0] at hab
  have hz : broadcastInDim S32x32 ![] Facts.bcast_S_S32x32 (constant (F := Ideal) S_ .f32 0x00000000#32) (ix2 a b) = ((0 : ℝ) : EReal) :=
    bits_zero
  rw [hz] at hab
  have : Ideal.cmp .une ((0 : ℝ) : EReal) ((0 : ℝ) : EReal) = 0#1 := by
    show BitVec.ofBool (decide (((0 : ℝ) : EReal) ≠ ((0 : ℝ) : EReal))) = 0#1
    rw [decide_eq_false (fun e => e rfl)]
    rfl
  exact absurd (this.symm.trans hab) (by decide)

/-- Under the precondition the largest magnitude is a positive real number. -/
theorem peak_real (X : Arr) (h : Cert.Pre_nonsingular.fn (F := Ideal) X = fun _ => 1#1) : ∃ p : ℝ, 0 < p ∧ peak X = (p : EReal) := by
  have hs : stepOf (peak X) ≠ 0 := fun h0 => rdet_ne_zero X h (isRows_zero X h0 0 0) rdet_zero
  have h0 : peak X ≠ 0 := fun e => hs (by rw [e, stepOf_zero])
  have ht : peak X ≠ ⊤ := fun e => hs (by rw [e, stepOf_top])
  have hn : 0 ≤ peak X := IsPeak.nonneg X (peak_isPeak X)
  have hb : peak X ≠ ⊥ := fun e => by rw [e] at hn; exact absurd hn (by simp)
  refine ⟨(peak X).toReal, ?_, (EReal.coe_toReal ht hb).symm⟩
  exact EReal.toReal_pos (lt_of_le_of_ne hn h0.symm) ht

/-- Under the precondition the specification's determinants are nonzero. -/
theorem good (X : Arr) (h : Cert.Pre_nonsingular.fn (F := Ideal) X = fun _ => 1#1) (p : ℝ) (hp : 0 < p) (hpk : peak X = (p : EReal)) :
    Good X (step p) := by
  intro b a h0
  refine rdet_ne_zero X h (isRows X p hp hpk a b) ?_
  rw [rdet_gram, h0, mul_zero]

end Cert.Ref

end
-- ==== Proof.Algebraic.lean ====
module

public import proofs.«01_k».proof.Defs
public import proofs.«01_k».proof.Proof.KernelRun
public import proofs.«01_k».proof.Proof.Predicate

/-! # The kernel computes the reference -/

@[expose] public section

noncomputable section

namespace Cert.Proof

open Idealize.ShloMosaic Idealize.ShloMosaic.TcCoe Idealize.ShloMosaic.StableHlo Idealize.SL.Sem Cert.Val

/-- The reference's run, its result read at the argument. -/
theorem reference_value (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v111)
          = Cert.ReferenceIdeal.Read.val_main_v111 (F := Ideal)
              (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)) :=
  (θ_run Cert.ReferenceIdeal.defs _ _).mono (fun r h c => ⟨by
    refine (h c).1.trans ((Cert.ReferenceIdeal.Read.val_main_v111_eq (launchContents m' c)).trans ?_)
    rw [launchContents_devRef], (h c).2⟩) (Cert.ReferenceIdeal.Value.run (F := Ideal) m' g')

/-- From equal arguments whose tiles are nonsingular, the kernel and the reference end with equal results. -/
theorem algebraic : Cert.algebraic_KernelIdeal_ReferenceIdeal_pre_nonsingular := by
  intro m g m' g' hpre harg
  choose p hp hpk using fun c => Cert.Ref.peak_real (Cert.KernelIdeal.Blocks.argAt m c) (hpre c)
  have hg (c) : Good (Cert.KernelIdeal.Blocks.argAt m c) (step (p c)) := Cert.Ref.good _ (hpre c) (p c) (hp c) (hpk c)
  refine ⟨fun c => (fun i => value (Cert.KernelIdeal.Blocks.argAt m c) (step (p c)) (i 1) (i 2) (i 3) : Vec Ideal Cert.KernelIdeal.S1x96x512x512 .f32),
    Cert.KernelIdeal.Blocks.kernel_run m g p hp (fun c => hpk c ▸ Cert.Ref.peak_isPeak _) hg, ?_⟩
  refine (θ_run Cert.ReferenceIdeal.defs _ _).mono (fun r h c => ⟨(h c).1.trans ?_, (h c).2⟩) (reference_value m' g')
  rw [harg c]
  funext i
  obtain ⟨z, n, y, w, rfl⟩ : ∃ z n y w, i = ValueIdx.ix4 z n y w := ⟨_, _, _, _, ValueIdx.eq_ix4 i⟩
  obtain rfl : z = 0 := Subsingleton.elim _ _
  exact Cert.Ref.v111_value (Cert.KernelIdeal.Blocks.argAt m c) (p c) (hp c) (hpk c) (hg c) n y w

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_nonsingular

@[expose] public section

noncomputable section

namespace Cert.Proof

open Idealize.ShloMosaic Idealize.SL.Sem

/-- Every claim: the three programs run and leave their arguments, the idealised kernel is the printed one with its
constant named, and it computes the reference. -/
theorem claim : Cert.Claim :=
  ⟨Cert.Kernel.Gen.facts, Cert.KernelIdeal.Gen.facts, Cert.ReferenceIdeal.Gen.facts, Cert.Pre_nonsingular.Gen.facts,
    Cert.Frames.kernel, Cert.Frames.kernelIdeal, fun m ρ _ => Cert.KernelIdeal.Body.quiescent m ρ, Cert.Frames.referenceIdeal,
    fun m ρ _ => Cert.Frames.reference_run m ρ, Cert.Frames.preserves, Cert.Proof.algebraic⟩

end Cert.Proof

end
